-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x1165 : Shape := ⟨2, ![16384, 1165]⟩
abbrev S20x64 : Shape := ⟨2, ![20, 64]⟩
abbrev S30x64 : Shape := ⟨2, ![30, 64]⟩
abbrev S10x8 : Shape := ⟨2, ![10, 8]⟩
abbrev S10x64 : Shape := ⟨2, ![10, 64]⟩
abbrev S73x73 : Shape := ⟨2, ![73, 73]⟩
abbrev S73 : Shape := ⟨1, ![73]⟩
abbrev S1000x64 : Shape := ⟨2, ![1000, 64]⟩
abbrev S64 : Shape := ⟨1, ![64]⟩
abbrev S50x64 : Shape := ⟨2, ![50, 64]⟩
abbrev S329x64 : Shape := ⟨2, ![329, 64]⟩
abbrev S16384x3 : Shape := ⟨2, ![16384, 3]⟩
abbrev S16384x1 : Shape := ⟨2, ![16384, 1]⟩
abbrev S_ : Shape := ⟨0, ![]⟩
abbrev S64x64 : Shape := ⟨2, ![64, 64]⟩

class Facts : Prop where
  slices_S16384x1165_S16384x3_0_11 : S16384x1165.Slices ![0, 11] S16384x3
  slices_S16384x1165_S16384x1_0_0 : S16384x1165.Slices ![0, 0] S16384x1
  bcast_S_S16384x1 : S_.BroadcastsInDim S16384x1 (![] : Fin 0 → Fin S16384x1.rank)
  slices_S16384x1165_S16384x1_0_1 : S16384x1165.Slices ![0, 1] S16384x1
  slices_S16384x1165_S16384x3_0_2 : S16384x1165.Slices ![0, 2] S16384x3
  bcast_S_S16384x3 : S_.BroadcastsInDim S16384x3 (![] : Fin 0 → Fin S16384x3.rank)
  slices_S16384x1165_S16384x3_0_5 : S16384x1165.Slices ![0, 5] S16384x3
  slices_S16384x1165_S16384x1_0_164 : S16384x1165.Slices ![0, 164] S16384x1
  bcast_S_S20x64 : S_.BroadcastsInDim S20x64 (![] : Fin 0 → Fin S20x64.rank)
  slices_S329x64_S64x64_201_0 : S329x64.Slices ![201, 0] S64x64
  bcast_S_S64x64 : S_.BroadcastsInDim S64x64 (![] : Fin 0 → Fin S64x64.rank)

variable [Facts]

def fn_part3 {F : FTy → Type} [FloatOps F] (main_arg14 : FVec F S329x64 .f32) (main_v10 : IVec S16384x1 1) (main_v20 : IVec S16384x1 1) (main_v30 : IVec S16384x3 1) (main_v40 : IVec S16384x3 1) (main_v50 : IVec S16384x1 1) (main_v55 : IVec S16384x3 1) (main_v58 : IVec S20x64 1) : IVec S16384x1 1 × IVec S16384x1 1 × IVec S16384x3 1 × IVec S16384x3 1 × IVec S16384x1 1 × IVec S16384x3 1 × IVec S20x64 1 × IVec S64x64 1 :=
  let main_v59 : FVec F S64x64 .f32 := (extractStridedSlice S64x64 ![201, 0] · slices_S329x64_S64x64_201_0) main_arg14
  let main_v60 : FVec F S64x64 .f32 := Host.absf main_v59
  let main_cst_11 : FVec F S_ .f32 := constant S_ .f32 0x7F800000#32
  let main_v61 : FVec F S64x64 .f32 := broadcastInDim S64x64 ![] bcast_S_S64x64 main_cst_11
  let main_v62 : IVec S64x64 1 := cmpf .olt main_v60 main_v61
  (main_v10, main_v20, main_v30, main_v40, main_v50, main_v55, main_v58, main_v62)

def fn_part2 {F : FTy → Type} [FloatOps F] (main_arg0 : FVec F S16384x1165 .f32) (main_arg2 : FVec F S20x64 .f32) (main_arg14 : FVec F S329x64 .f32) (main_v0 : FVec F S16384x3 .f32) (main_v10 : IVec S16384x1 1) (main_v20 : IVec S16384x1 1) (main_v30 : IVec S16384x3 1) (main_v37 : IVec S16384x3 1) (main_v39 : IVec S16384x3 1) : IVec S16384x1 1 × IVec S16384x1 1 × IVec S16384x3 1 × IVec S16384x3 1 × IVec S16384x1 1 × IVec S16384x3 1 × IVec S20x64 1 × IVec S64x64 1 :=
  let main_v40 : IVec S16384x3 1 := andi main_v37 main_v39
  let main_v41 : FVec F S16384x1 .f32 := (extractStridedSlice S16384x1 ![0, 164] · slices_S16384x1165_S16384x1_0_164) main_arg0
  let main_v42 : IVec S16384x1 32 := fptosi 32 main_v41
  let main_v43 : FVec F S16384x1 .f32 := sitofp .f32 main_v42
  let main_v44 : IVec S16384x1 1 := cmpf .oeq main_v43 main_v41
  let main_c_7 : IVec S_ 32 := constantI S_ 32 0#32
  let main_v45 : IVec S16384x1 32 := broadcastInDim S16384x1 ![] bcast_S_S16384x1 main_c_7
  let main_v46 : IVec S16384x1 1 := cmpi .sge main_v42 main_v45
  let main_v47 : IVec S16384x1 1 := andi main_v44 main_v46
  let main_c_8 : IVec S_ 32 := constantI S_ 32 20#32
  let main_v48 : IVec S16384x1 32 := broadcastInDim S16384x1 ![] bcast_S_S16384x1 main_c_8
  let main_v49 : IVec S16384x1 1 := cmpi .slt main_v42 main_v48
  let main_v50 : IVec S16384x1 1 := andi main_v47 main_v49
  let main_cst : FVec F S_ .f32 := constant S_ .f32 0x00000000#32
  let main_v51 : FVec F S16384x3 .f32 := broadcastInDim S16384x3 ![] bcast_S_S16384x3 main_cst
  let main_v52 : IVec S16384x3 1 := cmpf .oeq main_v0 main_v51
  let main_cst_9 : FVec F S_ .f32 := constant S_ .f32 0x3F800000#32
  let main_v53 : FVec F S16384x3 .f32 := broadcastInDim S16384x3 ![] bcast_S_S16384x3 main_cst_9
  let main_v54 : IVec S16384x3 1 := cmpf .oeq main_v0 main_v53
  let main_v55 : IVec S16384x3 1 := ori main_v52 main_v54
  let main_v56 : FVec F S20x64 .f32 := Host.absf main_arg2
  let main_cst_10 : FVec F S_ .f32 := constant S_ .f32 0x7F800000#32
  let main_v57 : FVec F S20x64 .f32 := broadcastInDim S20x64 ![] bcast_S_S20x64 main_cst_10
  let main_v58 : IVec S20x64 1 := cmpf .olt main_v56 main_v57
  fn_part3 (F := F) main_arg14 main_v10 main_v20 main_v30 main_v40 main_v50 main_v55 main_v58

def fn_part1 {F : FTy → Type} [FloatOps F] (main_arg0 : FVec F S16384x1165 .f32) (main_arg2 : FVec F S20x64 .f32) (main_arg14 : FVec F S329x64 .f32) (main_v0 : FVec F S16384x3 .f32) (main_v10 : IVec S16384x1 1) (main_v17 : IVec S16384x1 1) (main_v19 : IVec S16384x1 1) : IVec S16384x1 1 × IVec S16384x1 1 × IVec S16384x3 1 × IVec S16384x3 1 × IVec S16384x1 1 × IVec S16384x3 1 × IVec S20x64 1 × IVec S64x64 1 :=
  let main_v20 : IVec S16384x1 1 := andi main_v17 main_v19
  let main_v21 : FVec F S16384x3 .f32 := (extractStridedSlice S16384x3 ![0, 2] · slices_S16384x1165_S16384x3_0_2) main_arg0
  let main_v22 : IVec S16384x3 32 := fptosi 32 main_v21
  let main_v23 : FVec F S16384x3 .f32 := sitofp .f32 main_v22
  let main_v24 : IVec S16384x3 1 := cmpf .oeq main_v23 main_v21
  let main_c_3 : IVec S_ 32 := constantI S_ 32 0#32
  let main_v25 : IVec S16384x3 32 := broadcastInDim S16384x3 ![] bcast_S_S16384x3 main_c_3
  let main_v26 : IVec S16384x3 1 := cmpi .sge main_v22 main_v25
  let main_v27 : IVec S16384x3 1 := andi main_v24 main_v26
  let main_c_4 : IVec S_ 32 := constantI S_ 32 30#32
  let main_v28 : IVec S16384x3 32 := broadcastInDim S16384x3 ![] bcast_S_S16384x3 main_c_4
  let main_v29 : IVec S16384x3 1 := cmpi .slt main_v22 main_v28
  let main_v30 : IVec S16384x3 1 := andi main_v27 main_v29
  let main_v31 : FVec F S16384x3 .f32 := (extractStridedSlice S16384x3 ![0, 5] · slices_S16384x1165_S16384x3_0_5) main_arg0
  let main_v32 : IVec S16384x3 32 := fptosi 32 main_v31
  let main_v33 : FVec F S16384x3 .f32 := sitofp .f32 main_v32
  let main_v34 : IVec S16384x3 1 := cmpf .oeq main_v33 main_v31
  let main_c_5 : IVec S_ 32 := constantI S_ 32 0#32
  let main_v35 : IVec S16384x3 32 := broadcastInDim S16384x3 ![] bcast_S_S16384x3 main_c_5
  let main_v36 : IVec S16384x3 1 := cmpi .sge main_v32 main_v35
  let main_v37 : IVec S16384x3 1 := andi main_v34 main_v36
  let main_c_6 : IVec S_ 32 := constantI S_ 32 10#32
  let main_v38 : IVec S16384x3 32 := broadcastInDim S16384x3 ![] bcast_S_S16384x3 main_c_6
  let main_v39 : IVec S16384x3 1 := cmpi .slt main_v32 main_v38
  fn_part2 (F := F) main_arg0 main_arg2 main_arg14 main_v0 main_v10 main_v20 main_v30 main_v37 main_v39

def fn {F : FTy → Type} [FloatOps F] (main_arg0 : FVec F S16384x1165 .f32) (main_arg1 : FVec F S20x64 .f32) (main_arg2 : FVec F S20x64 .f32) (main_arg3 : FVec F S30x64 .f32) (main_arg4 : FVec F S10x8 .f32) (main_arg5 : FVec F S10x64 .f32) (main_arg6 : FVec F S73x73 .f32) (main_arg7 : FVec F S73 .f32) (main_arg8 : FVec F S73x73 .f32) (main_arg9 : FVec F S73 .f32) (main_arg10 : FVec F S1000x64 .f32) (main_arg11 : FVec F S64 .f32) (main_arg12 : FVec F S50x64 .f32) (main_arg13 : FVec F S64 .f32) (main_arg14 : FVec F S329x64 .f32) (main_arg15 : FVec F S64 .f32) : IVec S16384x1 1 × IVec S16384x1 1 × IVec S16384x3 1 × IVec S16384x3 1 × IVec S16384x1 1 × IVec S16384x3 1 × IVec S20x64 1 × IVec S64x64 1 :=
  let main_v0 : FVec F S16384x3 .f32 := (extractStridedSlice S16384x3 ![0, 11] · slices_S16384x1165_S16384x3_0_11) main_arg0
  let main_v1 : FVec F S16384x1 .f32 := (extractStridedSlice S16384x1 ![0, 0] · slices_S16384x1165_S16384x1_0_0) main_arg0
  let main_v2 : IVec S16384x1 32 := fptosi 32 main_v1
  let main_v3 : FVec F S16384x1 .f32 := sitofp .f32 main_v2
  let main_v4 : IVec S16384x1 1 := cmpf .oeq main_v3 main_v1
  let main_c : IVec S_ 32 := constantI S_ 32 0#32
  let main_v5 : IVec S16384x1 32 := broadcastInDim S16384x1 ![] bcast_S_S16384x1 main_c
  let main_v6 : IVec S16384x1 1 := cmpi .sge main_v2 main_v5
  let main_v7 : IVec S16384x1 1 := andi main_v4 main_v6
  let main_c_0 : IVec S_ 32 := constantI S_ 32 20#32
  let main_v8 : IVec S16384x1 32 := broadcastInDim S16384x1 ![] bcast_S_S16384x1 main_c_0
  let main_v9 : IVec S16384x1 1 := cmpi .slt main_v2 main_v8
  let main_v10 : IVec S16384x1 1 := andi main_v7 main_v9
  let main_v11 : FVec F S16384x1 .f32 := (extractStridedSlice S16384x1 ![0, 1] · slices_S16384x1165_S16384x1_0_1) main_arg0
  let main_v12 : IVec S16384x1 32 := fptosi 32 main_v11
  let main_v13 : FVec F S16384x1 .f32 := sitofp .f32 main_v12
  let main_v14 : IVec S16384x1 1 := cmpf .oeq main_v13 main_v11
  let main_c_1 : IVec S_ 32 := constantI S_ 32 0#32
  let main_v15 : IVec S16384x1 32 := broadcastInDim S16384x1 ![] bcast_S_S16384x1 main_c_1
  let main_v16 : IVec S16384x1 1 := cmpi .sge main_v12 main_v15
  let main_v17 : IVec S16384x1 1 := andi main_v14 main_v16
  let main_c_2 : IVec S_ 32 := constantI S_ 32 10#32
  let main_v18 : IVec S16384x1 32 := broadcastInDim S16384x1 ![] bcast_S_S16384x1 main_c_2
  let main_v19 : IVec S16384x1 1 := cmpi .slt main_v12 main_v18
  fn_part1 (F := F) main_arg0 main_arg2 main_arg14 main_v0 main_v10 main_v17 main_v19
-- ==== Kernel.lean ====
abbrev S16384x1165 : Shape := ⟨2, ![16384, 1165]⟩
abbrev S20x64 : Shape := ⟨2, ![20, 64]⟩
abbrev S30x64 : Shape := ⟨2, ![30, 64]⟩
abbrev S10x8 : Shape := ⟨2, ![10, 8]⟩
abbrev S10x64 : Shape := ⟨2, ![10, 64]⟩
abbrev S73x73 : Shape := ⟨2, ![73, 73]⟩
abbrev S73 : Shape := ⟨1, ![73]⟩
abbrev S1000x64 : Shape := ⟨2, ![1000, 64]⟩
abbrev S64 : Shape := ⟨1, ![64]⟩
abbrev S50x64 : Shape := ⟨2, ![50, 64]⟩
abbrev S329x64 : Shape := ⟨2, ![329, 64]⟩
abbrev S64x64 : Shape := ⟨2, ![64, 64]⟩
abbrev S256x73 : Shape := ⟨2, ![256, 73]⟩
abbrev S16x768 : Shape := ⟨2, ![16, 768]⟩
abbrev S256x192 : Shape := ⟨2, ![256, 192]⟩
abbrev S14x64 : Shape := ⟨2, ![14, 64]⟩
abbrev S64x73 : Shape := ⟨2, ![64, 73]⟩
abbrev S30x73 : Shape := ⟨2, ![30, 73]⟩
abbrev S8x73 : Shape := ⟨2, ![8, 73]⟩
abbrev S10x73 : Shape := ⟨2, ![10, 73]⟩
abbrev S34x73 : Shape := ⟨2, ![34, 73]⟩
abbrev S54x73 : Shape := ⟨2, ![54, 73]⟩
abbrev S1x73 : Shape := ⟨2, ![1, 73]⟩
abbrev S127x73 : Shape := ⟨2, ![127, 73]⟩
abbrev S16x1 : Shape := ⟨2, ![16, 1]⟩
abbrev S1x768 : Shape := ⟨2, ![1, 768]⟩
abbrev S150x1 : Shape := ⟨2, ![150, 1]⟩
abbrev S1x50 : Shape := ⟨2, ![1, 50]⟩
abbrev S150x50 : Shape := ⟨2, ![150, 50]⟩
abbrev S150x64 : Shape := ⟨2, ![150, 64]⟩
abbrev S150x192 : Shape := ⟨2, ![150, 192]⟩
abbrev S14x192 : Shape := ⟨2, ![14, 192]⟩
abbrev S92x192 : Shape := ⟨2, ![92, 192]⟩
abbrev S_ : Shape := ⟨0, ![]⟩
abbrev S37x64 : Shape := ⟨2, ![37, 64]⟩
abbrev S3x64 : Shape := ⟨2, ![3, 64]⟩
abbrev S1040x64 : Shape := ⟨2, ![1040, 64]⟩
abbrev S1x64 : Shape := ⟨2, ![1, 64]⟩
abbrev S73x64 : Shape := ⟨2, ![73, 64]⟩
abbrev S16384x64 : Shape := ⟨2, ![16384, 64]⟩
abbrev S1024x1165 : Shape := ⟨2, ![1024, 1165]⟩
abbrev S1024x64 : Shape := ⟨2, ![1024, 64]⟩
abbrev S1024x16 : Shape := ⟨2, ![1024, 16]⟩
abbrev S1024x1 : Shape := ⟨2, ![1024, 1]⟩
abbrev S1024x768 : Shape := ⟨2, ![1024, 768]⟩
abbrev S1024x256 : Shape := ⟨2, ![1024, 256]⟩
abbrev S3072x256 : Shape := ⟨2, ![3072, 256]⟩
abbrev S3072x73 : Shape := ⟨2, ![3072, 73]⟩
abbrev S3072x1 : Shape := ⟨2, ![3072, 1]⟩
abbrev S1024x73 : Shape := ⟨2, ![1024, 73]⟩
abbrev S1024x192 : Shape := ⟨2, ![1024, 192]⟩
abbrev S1024x1037 : Shape := ⟨2, ![1024, 1037]⟩
abbrev S1037x64 : Shape := ⟨2, ![1037, 64]⟩

abbrev nBuf : Space → Nat
  | .hbm => 34
  | .vmem => 30
  | .smem => 0
  | _ => 0

abbrev bufTy : (tb : Table) → Fin (tcTables nBuf tb) → BufTy
  | .hbm, ⟨0, _⟩ => ⟨S16384x1165, .f32⟩
  | .hbm, ⟨1, _⟩ => ⟨S20x64, .f32⟩
  | .hbm, ⟨2, _⟩ => ⟨S20x64, .f32⟩
  | .hbm, ⟨3, _⟩ => ⟨S30x64, .f32⟩
  | .hbm, ⟨4, _⟩ => ⟨S10x8, .f32⟩
  | .hbm, ⟨5, _⟩ => ⟨S10x64, .f32⟩
  | .hbm, ⟨6, _⟩ => ⟨S73x73, .f32⟩
  | .hbm, ⟨7, _⟩ => ⟨S73, .f32⟩
  | .hbm, ⟨8, _⟩ => ⟨S73x73, .f32⟩
  | .hbm, ⟨9, _⟩ => ⟨S73, .f32⟩
  | .hbm, ⟨10, _⟩ => ⟨S1000x64, .f32⟩
  | .hbm, ⟨11, _⟩ => ⟨S64, .f32⟩
  | .hbm, ⟨12, _⟩ => ⟨S50x64, .f32⟩
  | .hbm, ⟨13, _⟩ => ⟨S64, .f32⟩
  | .hbm, ⟨14, _⟩ => ⟨S329x64, .f32⟩
  | .hbm, ⟨15, _⟩ => ⟨S64, .f32⟩
  | .hbm, ⟨16, _⟩ => ⟨S64x64, .f32⟩
  | .hbm, ⟨17, _⟩ => ⟨S256x73, .f32⟩
  | .hbm, ⟨18, _⟩ => ⟨S16x768, .f32⟩
  | .hbm, ⟨19, _⟩ => ⟨S256x192, .f32⟩
  | .hbm, ⟨20, _⟩ => ⟨S_, .f32⟩
  | .hbm, ⟨21, _⟩ => ⟨S37x64, .f32⟩
  | .hbm, ⟨22, _⟩ => ⟨S_, .f32⟩
  | .hbm, ⟨23, _⟩ => ⟨S3x64, .f32⟩
  | .hbm, ⟨24, _⟩ => ⟨S1040x64, .f32⟩
  | .hbm, ⟨25, _⟩ => ⟨S1x73, .f32⟩
  | .hbm, ⟨26, _⟩ => ⟨S1x73, .f32⟩
  | .hbm, ⟨27, _⟩ => ⟨S1x64, .f32⟩
  | .hbm, ⟨28, _⟩ => ⟨S1x64, .f32⟩
  | .hbm, ⟨29, _⟩ => ⟨S73x64, .f32⟩
  | .hbm, ⟨30, _⟩ => ⟨S64x64, .f32⟩
  | .hbm, ⟨31, _⟩ => ⟨S64x64, .f32⟩
  | .hbm, ⟨32, _⟩ => ⟨S1x64, .f32⟩
  | .hbm, ⟨33, _⟩ => ⟨S16384x64, .f32⟩
  | .local _ .vmem, ⟨0, _⟩ => ⟨S20x64, .f32⟩
  | .local _ .vmem, ⟨1, _⟩ => ⟨S20x64, .f32⟩
  | .local _ .vmem, ⟨2, _⟩ => ⟨S30x64, .f32⟩
  | .local _ .vmem, ⟨3, _⟩ => ⟨S10x8, .f32⟩
  | .local _ .vmem, ⟨4, _⟩ => ⟨S10x64, .f32⟩
  | .local _ .vmem, ⟨5, _⟩ => ⟨S73x73, .f32⟩
  | .local _ .vmem, ⟨6, _⟩ => ⟨S50x64, .f32⟩
  | .local _ .vmem, ⟨7, _⟩ => ⟨S329x64, .f32⟩
  | .local _ .vmem, ⟨8, _⟩ => ⟨S64x64, .f32⟩
  | .local _ .vmem, ⟨9, _⟩ => ⟨S256x73, .f32⟩
  | .local _ .vmem, ⟨10, _⟩ => ⟨S16x768, .f32⟩
  | .local _ .vmem, ⟨11, _⟩ => ⟨S256x192, .f32⟩
  | .local _ .vmem, ⟨12, _⟩ => ⟨S1024x1165, .f32⟩
  | .local _ .vmem, ⟨13, _⟩ => ⟨S1024x1165, .f32⟩
  | .local _ .vmem, ⟨14, _⟩ => ⟨S64x64, .f32⟩
  | .local _ .vmem, ⟨15, _⟩ => ⟨S256x73, .f32⟩
  | .local _ .vmem, ⟨16, _⟩ => ⟨S16x768, .f32⟩
  | .local _ .vmem, ⟨17, _⟩ => ⟨S73x73, .f32⟩
  | .local _ .vmem, ⟨18, _⟩ => ⟨S1x73, .f32⟩
  | .local _ .vmem, ⟨19, _⟩ => ⟨S1x73, .f32⟩
  | .local _ .vmem, ⟨20, _⟩ => ⟨S256x192, .f32⟩
  | .local _ .vmem, ⟨21, _⟩ => ⟨S1x64, .f32⟩
  | .local _ .vmem, ⟨22, _⟩ => ⟨S1040x64, .f32⟩
  | .local _ .vmem, ⟨23, _⟩ => ⟨S1x64, .f32⟩
  | .local _ .vmem, ⟨24, _⟩ => ⟨S73x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S1024x64, .f32⟩
  | .local _ .vmem, ⟨29, _⟩ => ⟨S1024x64, .f32⟩
  | _, _ => ⟨S16384x1165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_cst : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg15_0 : Ref sig .tc := ⟨.vmem, 28, rfl⟩
abbrev cc1_stg15_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem15_1 : DmaSem sig := 29

abbrev nD : Nat := 1
abbrev τ : Topo := Topo.v7x

variable {F : FTy → Type} [FloatOps F]

abbrev grid0 : Pipeline.Grid := .none

abbrev stage0_0 : Fin 1 → Memref sig .tc .vmem S20x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S73x73 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S50x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S329x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x73 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1165 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x73 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S73x73 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x73 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x73 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1040x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S73x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1024x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== ReferenceIdeal.lean ====
abbrev S16384x1165 : Shape := ⟨2, ![16384, 1165]⟩
abbrev S20x64 : Shape := ⟨2, ![20, 64]⟩
abbrev S30x64 : Shape := ⟨2, ![30, 64]⟩
abbrev S10x8 : Shape := ⟨2, ![10, 8]⟩
abbrev S10x64 : Shape := ⟨2, ![10, 64]⟩
abbrev S73x73 : Shape := ⟨2, ![73, 73]⟩
abbrev S73 : Shape := ⟨1, ![73]⟩
abbrev S1000x64 : Shape := ⟨2, ![1000, 64]⟩
abbrev S64 : Shape := ⟨1, ![64]⟩
abbrev S50x64 : Shape := ⟨2, ![50, 64]⟩
abbrev S329x64 : Shape := ⟨2, ![329, 64]⟩
abbrev S16384x1 : Shape := ⟨2, ![16384, 1]⟩
abbrev S16384x9 : Shape := ⟨2, ![16384, 9]⟩
abbrev S16384x3 : Shape := ⟨2, ![16384, 3]⟩
abbrev S16384x150 : Shape := ⟨2, ![16384, 150]⟩
abbrev S16384x1001 : Shape := ⟨2, ![16384, 1001]⟩
abbrev S16384 : Shape := ⟨1, ![16384]⟩
abbrev S_ : Shape := ⟨0, ![]⟩
abbrev S16384x64 : Shape := ⟨2, ![16384, 64]⟩
abbrev S16384x3x3 : Shape := ⟨3, ![16384, 3, 3]⟩
abbrev S16384x3x1 : Shape := ⟨3, ![16384, 3, 1]⟩
abbrev S16384x3x64 : Shape := ⟨3, ![16384, 3, 64]⟩
abbrev S16384x3x8 : Shape := ⟨3, ![16384, 3, 8]⟩
abbrev S16384x3x73 : Shape := ⟨3, ![16384, 3, 73]⟩
abbrev S1x1x73 : Shape := ⟨3, ![1, 1, 73]⟩
abbrev S16384x73 : Shape := ⟨2, ![16384, 73]⟩
abbrev S16384x50x3 : Shape := ⟨3, ![16384, 50, 3]⟩
abbrev S16384x3x50 : Shape := ⟨3, ![16384, 3, 50]⟩
abbrev S1x1x64 : Shape := ⟨3, ![1, 1, 64]⟩
abbrev S16384x1000 : Shape := ⟨2, ![16384, 1000]⟩
abbrev S1x64 : Shape := ⟨2, ![1, 64]⟩
abbrev S16384x329 : Shape := ⟨2, ![16384, 329]⟩

abbrev nBuf : Space → Nat
  | .hbm => 165
  | .vmem => 0
  | .smem => 0
  | _ => 0

abbrev hbmTy0_0 (i : Nat) : BufTy := match i % 128 with
  | 0 => ⟨S16384x1165, .f32⟩
  | 1 => ⟨S20x64, .f32⟩
  | 2 => ⟨S20x64, .f32⟩
  | 3 => ⟨S30x64, .f32⟩
  | 4 => ⟨S10x8, .f32⟩
  | 5 => ⟨S10x64, .f32⟩
  | 6 => ⟨S73x73, .f32⟩
  | 7 => ⟨S73, .f32⟩
  | 8 => ⟨S73x73, .f32⟩
  | 9 => ⟨S73, .f32⟩
  | 10 => ⟨S1000x64, .f32⟩
  | 11 => ⟨S64, .f32⟩
  | 12 => ⟨S50x64, .f32⟩
  | 13 => ⟨S64, .f32⟩
  | 14 => ⟨S329x64, .f32⟩
  | 15 => ⟨S64, .f32⟩
  | 16 => ⟨S16384x1, .f32⟩
  | 17 => ⟨S16384x1, .f32⟩
  | 18 => ⟨S16384x9, .f32⟩
  | 19 => ⟨S16384x3, .f32⟩
  | 20 => ⟨S16384x150, .f32⟩
  | 21 => ⟨S16384x1001, .f32⟩
  | 22 => ⟨S16384, .f32⟩
  | 23 => ⟨S16384, .i32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S16384x64, .f32⟩
  | 33 => ⟨S16384, .f32⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S16384x64, .f32⟩
  | 44 => ⟨S16384x3x3, .f32⟩
  | 45 => ⟨S16384x3x3, .f32⟩
  | 46 => ⟨S16384x3x1, .f32⟩
  | 47 => ⟨S16384x3, .f32⟩
  | 48 => ⟨S16384x3, .i32⟩
  | 49 => ⟨S16384x3x1, .f32⟩
  | 50 => ⟨S16384x3, .f32⟩
  | 51 => ⟨S16384x3, .i32⟩
  | 52 => ⟨S16384x3x1, .f32⟩
  | 53 => ⟨S16384x3, .f32⟩
  | 54 => ⟨S16384x3x1, .f32⟩
  | 55 => ⟨S_, .i32⟩
  | 56 => ⟨S16384x3, .i32⟩
  | 57 => ⟨S16384x3, .i1⟩
  | 58 => ⟨S_, .i32⟩
  | 59 => ⟨S16384x3, .i32⟩
  | 60 => ⟨S16384x3, .i32⟩
  | 61 => ⟨S16384x3, .i32⟩
  | 62 => ⟨S16384x3x1, .i32⟩
  | 63 => ⟨S16384x3x64, .f32⟩
  | 64 => ⟨S_, .i32⟩
  | 65 => ⟨S16384x3, .i32⟩
  | 66 => ⟨S16384x3, .i1⟩
  | 67 => ⟨S_, .i32⟩
  | 68 => ⟨S16384x3, .i32⟩
  | 69 => ⟨S16384x3, .i32⟩
  | 70 => ⟨S16384x3, .i32⟩
  | 71 => ⟨S16384x3x1, .i32⟩
  | 72 => ⟨S16384x3x8, .f32⟩
  | 73 => ⟨S16384x3x73, .f32⟩
  | 74 => ⟨S16384x3x73, .f32⟩
  | 75 => ⟨S1x1x73, .f32⟩
  | 76 => ⟨S16384x3x73, .f32⟩
  | 77 => ⟨S16384x3x73, .f32⟩
  | 78 => ⟨S_, .f32⟩
  | 79 => ⟨S_, .f32⟩
  | 80 => ⟨S16384x3x73, .f32⟩
  | 81 => ⟨S16384x3x73, .i1⟩
  | 82 => ⟨S_, .f32⟩
  | 83 => ⟨S16384x3x73, .f32⟩
  | 84 => ⟨S16384x3x73, .f32⟩
  | 85 => ⟨S16384x3x73, .f32⟩
  | 86 => ⟨S16384x3x73, .f32⟩
  | 87 => ⟨S1x1x73, .f32⟩
  | 88 => ⟨S16384x3x73, .f32⟩
  | 89 => ⟨S16384x3x73, .f32⟩
  | 90 => ⟨S_, .f32⟩
  | 91 => ⟨S_, .f32⟩
  | 92 => ⟨S16384x3x73, .f32⟩
  | 93 => ⟨S16384x3x73, .i1⟩
  | 94 => ⟨S_, .f32⟩
  | 95 => ⟨S16384x3x73, .f32⟩
  | 96 => ⟨S16384x3x73, .f32⟩
  | 97 => ⟨S16384x3x73, .f32⟩
  | 98 => ⟨S_, .f32⟩
  | 99 => ⟨S16384x3, .f32⟩
  | 100 => ⟨S16384x3, .i1⟩
  | 101 => ⟨S16384x3x1, .i1⟩
  | 102 => ⟨S_, .f32⟩
  | 103 => ⟨S_, .f32⟩
  | 104 => ⟨S16384x3x73, .i1⟩
  | 105 => ⟨S16384x3x73, .f32⟩
  | 106 => ⟨S16384x3x73, .f32⟩
  | 107 => ⟨S_, .f32⟩
  | 108 => ⟨S16384, .f32⟩
  | 109 => ⟨S16384x1, .f32⟩
  | 110 => ⟨S_, .f32⟩
  | 111 => ⟨S_, .f32⟩
  | 112 => ⟨S16384x1, .f32⟩
  | 113 => ⟨S16384x1, .f32⟩
  | 114 => ⟨S_, .f32⟩
  | 115 => ⟨S16384x73, .f32⟩
  | 116 => ⟨S16384x73, .f32⟩
  | 117 => ⟨S16384x73, .f32⟩
  | 118 => ⟨S16384x50x3, .f32⟩
  | 119 => ⟨S16384x3x50, .f32⟩
  | 120 => ⟨S16384x3x64, .f32⟩
  | 121 => ⟨S1x1x64, .f32⟩
  | 122 => ⟨S16384x3x64, .f32⟩
  | 123 => ⟨S16384x3x64, .f32⟩
  | 124 => ⟨S16384x3x1, .i1⟩
  | 125 => ⟨S_, .f32⟩
  | 126 => ⟨S_, .f32⟩
  | 127 => ⟨S16384x3x64, .i1⟩
  | _ => ⟨S16384x1165, .f32⟩

abbrev hbmTy0_1 (i : Nat) : BufTy := match i % 128 with
  | 0 => ⟨S16384x3x64, .f32⟩
  | 1 => ⟨S16384x3x64, .f32⟩
  | 2 => ⟨S_, .f32⟩
  | 3 => ⟨S16384x64, .f32⟩
  | 4 => ⟨S16384x64, .f32⟩
  | 5 => ⟨S16384x64, .f32⟩
  | 6 => ⟨S16384x1, .f32⟩
  | 7 => ⟨S16384, .f32⟩
  | 8 => ⟨S16384, .i32⟩
  | 9 => ⟨S16384x1000, .f32⟩
  | 10 => ⟨S_, .i32⟩
  | 11 => ⟨S16384, .i32⟩
  | 12 => ⟨S16384, .i1⟩
  | 13 => ⟨S_, .i32⟩
  | 14 => ⟨S16384, .i32⟩
  | 15 => ⟨S16384, .i32⟩
  | 16 => ⟨S16384, .i32⟩
  | 17 => ⟨S16384x1, .i32⟩
  | 18 => ⟨S16384x64, .f32⟩
  | 19 => ⟨S16384x64, .f32⟩
  | 20 => ⟨S1x64, .f32⟩
  | 21 => ⟨S16384x64, .f32⟩
  | 22 => ⟨S16384x64, .f32⟩
  | 23 => ⟨S16384x64, .f32⟩
  | 24 => ⟨S16384x329, .f32⟩
  | 25 => ⟨S16384x64, .f32⟩
  | 26 => ⟨S1x64, .f32⟩
  | 27 => ⟨S16384x64, .f32⟩
  | 28 => ⟨S16384x64, .f32⟩
  | 29 => ⟨S_, .f32⟩
  | 30 => ⟨S_, .f32⟩
  | 31 => ⟨S16384x64, .f32⟩
  | 32 => ⟨S16384x64, .i1⟩
  | 33 => ⟨S_, .f32⟩
  | 34 => ⟨S16384x64, .f32⟩
  | 35 => ⟨S16384x64, .f32⟩
  | 36 => ⟨S16384x64, .f32⟩
  | _ => ⟨S16384x1165, .f32⟩

abbrev hbmTy (i : Nat) : BufTy := match i / 128 with
  | 0 => hbmTy0_0 i
  | 1 => hbmTy0_1 i
  | _ => ⟨S16384x1165, .f32⟩

abbrev bufTy : (tb : Table) → Fin (tcTables nBuf tb) → BufTy
  | .hbm, ⟨i, _⟩ => hbmTy i
  | _, _ => ⟨S16384x1165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_3 : Ref sig .tc := ⟨.hbm, 55, rfl⟩
abbrev main_v35 : Ref sig .tc := ⟨.hbm, 56, rfl⟩
abbrev main_v36 : Ref sig .tc := ⟨.hbm, 57, rfl⟩
abbrev main_c_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_7 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v59 : Ref sig .tc := ⟨.hbm, 97, rfl⟩
abbrev main_cst_8 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_9 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v63 : Ref sig .tc := ⟨.hbm, 106, rfl⟩
abbrev main_cst_10 : Ref sig .tc := ⟨.hbm, 107, rfl⟩
abbrev main_v64 : Ref sig .tc := ⟨.hbm, 108, rfl⟩
abbrev main_v65 : Ref sig .tc := ⟨.hbm, 109, rfl⟩
abbrev main_cst_11 : Ref sig .tc := ⟨.hbm, 110, rfl⟩
abbrev main_call3_v0 : Ref sig .tc := ⟨.hbm, 111, rfl⟩
abbrev main_call3_v1 : Ref sig .tc := ⟨.hbm, 112, rfl⟩
abbrev main_v66 : Ref sig .tc := ⟨.hbm, 113, rfl⟩
abbrev main_cst_12 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_13 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_v77 : Ref sig .tc := ⟨.hbm, 129, rfl⟩
abbrev main_cst_14 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_c_15 : Ref sig .tc := ⟨.hbm, 138, rfl⟩
abbrev main_v85 : Ref sig .tc := ⟨.hbm, 139, rfl⟩
abbrev main_v86 : Ref sig .tc := ⟨.hbm, 140, rfl⟩
abbrev main_c_16 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_17 : Ref sig .tc := ⟨.hbm, 157, rfl⟩
abbrev main_call5_cst : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_v102 : Ref sig .tc := ⟨.hbm, 164, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.IdealHost

@[expose] public section

noncomputable section

namespace Cert.Proof

open Idealize.ShloMosaic

/-! # The mathematics of one row

One row of `feature` holds a node type, a join, three filters (a column, an operator, a value each), three masks, fifty
histograms of three bins, a table and a sample. Below is what the row is mapped to, over the extended reals, with the
identifiers given as positions in the embedding tables. -/

/-- The slope of the leaky rectifier: the real number that the program's literal denotes. -/
def slope : EReal := Ideal.ofBits .f32 0x3C23D70A#32

/-- The leaky rectifier. -/
def leaky (x : EReal) : EReal := if 0 ≤ x then x else slope * x

/-- The embedding tables, weights and biases, by row and column. -/
structure Weights where
  typeE : Fin 20 → Fin 64 → EReal
  tableE : Fin 20 → Fin 64 → EReal
  colE : Fin 30 → Fin 64 → EReal
  opE : Fin 10 → Fin 8 → EReal
  joinE : Fin 10 → Fin 64 → EReal
  Wf : Fin 73 → Fin 73 → EReal
  bf : Fin 73 → EReal
  Wf2 : Fin 73 → Fin 73 → EReal
  bf2 : Fin 73 → EReal
  Ws : Fin 1000 → Fin 64 → EReal
  bs : Fin 64 → EReal
  Wh : Fin 50 → Fin 64 → EReal
  bh : Fin 64 → EReal
  Wp : Fin 329 → Fin 64 → EReal
  bp : Fin 64 → EReal

/-- The identifiers and masks of one row. -/
structure Ids where
  ty : Fin 20
  jn : Fin 10
  col : Fin 3 → Fin 30
  op : Fin 3 → Fin 10
  tb : Fin 20
  on : Fin 3 → Bool

/-- The row `f` of `feature` holds these identifiers and masks, as numbers. -/
structure Holds (f : Fin 1165 → EReal) (d : Ids) : Prop where
  ty : f 0 = ((d.ty.val : ℝ) : EReal)
  jn : f 1 = ((d.jn.val : ℝ) : EReal)
  col : ∀ j : Fin 3, f ⟨2 + j.val, by omega⟩ = (((d.col j).val : ℝ) : EReal)
  op : ∀ j : Fin 3, f ⟨5 + j.val, by omega⟩ = (((d.op j).val : ℝ) : EReal)
  tb : f ⟨164, by omega⟩ = ((d.tb.val : ℝ) : EReal)
  on : ∀ j : Fin 3, f ⟨11 + j.val, by omega⟩ = if d.on j then 1 else 0

variable (w : Weights) (d : Ids) (f : Fin 1165 → EReal)

/-- The first filter layer on filter `j`. -/
def filt1 (j : Fin 3) (l : Fin 73) : EReal :=
  leaky ((∑ k : Fin 64, w.colE (d.col j) k * w.Wf ⟨k.val, by omega⟩ l
    + ∑ k : Fin 8, w.opE (d.op j) k * w.Wf ⟨64 + k.val, by omega⟩ l
    + f ⟨8 + j.val, by omega⟩ * w.Wf ⟨72, by omega⟩ l) + w.bf l)

/-- The second filter layer on filter `j`. -/
def filt2 (j : Fin 3) (l : Fin 73) : EReal :=
  leaky (∑ k : Fin 73, filt1 w d f j k * w.Wf2 k l + w.bf2 l)

/-- The number of filters that count, at least one. -/
def num : EReal := max 1 (∑ j : Fin 3, if d.on j then (1 : EReal) else 0)

/-- The filter embedding: the mean over the filters that count. -/
def filtE (l : Fin 73) : EReal :=
  Ideal.div (∑ j : Fin 3, if d.on j then filt2 w d f j l else 0) (num d)

/-- The histogram layer on bin `j`. -/
def hist (j : Fin 3) (c : Fin 64) : EReal :=
  ∑ q : Fin 50, f ⟨14 + 3 * q.val + j.val, by omega⟩ * w.Wh q c + w.bh c

/-- The histogram embedding: the mean over the bins that count. -/
def histE (c : Fin 64) : EReal :=
  Ideal.div (∑ j : Fin 3, if d.on j then hist w f j c else 0) (num d)

/-- The sample layer. -/
def sample (c : Fin 64) : EReal :=
  ∑ q : Fin 1000, f ⟨165 + q.val, by omega⟩ * w.Ws q c + w.bs c

/-- The last layer before its rectifier: type, filters, join, table with sample, histograms, each against its own rows of
    the weights. -/
def pre (c : Fin 64) : EReal :=
  (∑ k : Fin 64, w.typeE d.ty k * w.Wp ⟨k.val, by omega⟩ c
    + ∑ k : Fin 73, filtE w d f k * w.Wp ⟨64 + k.val, by omega⟩ c
    + ∑ k : Fin 64, w.joinE d.jn k * w.Wp ⟨137 + k.val, by omega⟩ c
    + ∑ k : Fin 64, (w.tableE d.tb k + sample w f k) * w.Wp ⟨201 + k.val, by omega⟩ c
    + ∑ k : Fin 64, histE w d f k * w.Wp ⟨265 + k.val, by omega⟩ c) + w.bp c

/-- What the row is mapped to. -/
def rowOut (c : Fin 64) : EReal := leaky (pre w d f c)

/-! ## Facts over the extended reals -/

/-- The slope is a real number between zero and one. -/
theorem slope_eq : ∃ s : ℝ, 0 < s ∧ s < 1 ∧ slope = (s : EReal) := by
  refine ⟨10737418 / 2 ^ 30, by norm_num, by norm_num, ?_⟩
  unfold slope
  simp [Ideal.ofBits, Ideal.ieee, -EReal.coe_mul]; norm_num

/-- The larger of a number and its multiple by the slope is the leaky rectifier. -/
theorem max_leaky (x : EReal) : max x (slope * x) = leaky x := by
  obtain ⟨s, h0, h1, hs⟩ := slope_eq
  unfold leaky
  rw [hs]
  induction x using EReal.rec with
  | bot => rw [EReal.coe_mul_bot_of_pos h0]; simp
  | top => simp
  | coe x =>
    rw [← EReal.coe_mul]
    by_cases hx : 0 ≤ x
    · rw [if_pos (by exact_mod_cast hx), max_eq_left (EReal.coe_le_coe_iff.2 (by nlinarith))]
    · rw [if_neg (by exact_mod_cast hx), max_eq_right (EReal.coe_le_coe_iff.2 (by nlinarith))]

/-- The count is not zero. -/
theorem num_ne : num d ≠ 0 := by
  have h : (1 : EReal) ≤ num d := le_max_left _ _
  intro h0
  rw [h0] at h
  exact absurd h (by norm_num)

/-- Times the reciprocal of the count is divided by the count. -/
theorem div_num (x : EReal) : x * Ideal.div 1 (num d) = Ideal.div x (num d) := by
  unfold Ideal.div
  rw [if_neg (num_ne d), if_neg (num_ne d), one_mul]

/-- A finite factor distributes over a sum with a finite term. -/
theorem add_mul_fin (a w : ℝ) (s : EReal) : ((a : EReal) + s) * (w : EReal) = a * w + s * w := by
  induction s using EReal.rec with
  | coe s => norm_cast; ring
  | bot =>
    rw [EReal.add_bot]
    rcases lt_trichotomy w 0 with h | h | h
    · rw [EReal.bot_mul_coe_of_neg h, ← EReal.coe_mul, EReal.coe_add_top]
    · subst h; simp
    · rw [EReal.bot_mul_coe_of_pos h, EReal.add_bot]
  | top =>
    rw [EReal.coe_add_top]
    rcases lt_trichotomy w 0 with h | h | h
    · rw [EReal.top_mul_coe_of_neg h, EReal.add_bot]
    · subst h; simp
    · rw [EReal.top_mul_coe_of_pos h, ← EReal.coe_mul, EReal.coe_add_top]

/-- A zero-or-one factor keeps the other factor or drops it. -/
theorem mask_mul (b : Bool) (x : EReal) : (if b then (1 : EReal) else 0) * x = if b then x else 0 := by
  cases b <;> simp

/-- A mask is not negative. -/
theorem mask_nonneg (b : Bool) : (0 : EReal) ≤ if b then (1 : EReal) else 0 := by cases b <;> simp

/-- Three masks' sum times a number is the sum of the numbers they keep. -/
theorem masks_mul (b : Fin 3 → Bool) (x : EReal) :
    ((if b 0 then (1 : EReal) else 0) + (if b 1 then 1 else 0) + (if b 2 then 1 else 0)) * x
      = (if b 0 then x else 0) + (if b 1 then x else 0) + (if b 2 then x else 0) := by
  rw [EReal.right_distrib_of_nonneg (add_nonneg (mask_nonneg _) (mask_nonneg _)) (mask_nonneg _),
    EReal.right_distrib_of_nonneg (mask_nonneg _) (mask_nonneg _), mask_mul, mask_mul, mask_mul]

/-- Kept sums are sums of kept terms. -/
theorem keep_add (b : Bool) (x y : EReal) : (if b then x else 0) + (if b then y else 0) = if b then x + y else 0 := by
  cases b <;> simp

/-- The row's output from the kernel's grouping of its terms: the three table products together, the reciprocal of the count
    as a factor, the sample's product apart from the table's, the histogram bias times the number of masks. The table's
    embedding and its weights are finite. -/
theorem rowOut_eq (c : Fin 64) (ht : ∀ a k, ∃ r : ℝ, w.tableE a k = r)
    (hw : ∀ (k : Fin 64) (c : Fin 64), ∃ r : ℝ, w.Wp ⟨201 + k.val, by omega⟩ c = r)
    (m : Fin 3 → EReal) (hm : ∀ j, m j = if d.on j then 1 else 0) (acc : EReal)
    (hacc : acc = ∑ k : Fin 64, w.typeE d.ty k * w.Wp ⟨k.val, by omega⟩ c
      + ∑ k : Fin 64, w.joinE d.jn k * w.Wp ⟨137 + k.val, by omega⟩ c
      + ∑ k : Fin 64, w.tableE d.tb k * w.Wp ⟨201 + k.val, by omega⟩ c)
    (facc : Fin 73 → EReal)
    (hf : ∀ l, facc l = m 0 * filt2 w d f 0 l + m 1 * filt2 w d f 1 l + m 2 * filt2 w d f 2 l)
    (hh : Fin 3 → Fin 64 → EReal)
    (hhh : ∀ j k, hh j k = ∑ q : Fin 50, f ⟨14 + 3 * q.val + j.val, by omega⟩ * w.Wh q k)
    (smp : Fin 64 → EReal) (hs : ∀ k, smp k = ∑ q : Fin 1000, f ⟨165 + q.val, by omega⟩ * w.Ws q k)
    (x : EReal)
    (hx : x = acc + ∑ k : Fin 73, facc k * Ideal.div 1 (max (m 0 + m 1 + m 2) 1) * w.Wp ⟨64 + k.val, by omega⟩ c
      + ∑ k : Fin 64, (smp k + w.bs k) * w.Wp ⟨201 + k.val, by omega⟩ c
      + ∑ k : Fin 64, ((m 0 * hh 0 k + m 1 * hh 1 k + m 2 * hh 2 k + (m 0 + m 1 + m 2) * w.bh k)
          * Ideal.div 1 (max (m 0 + m 1 + m 2) 1)) * w.Wp ⟨265 + k.val, by omega⟩ c
      + w.bp c) :
    max x (slope * x) = rowOut w d f c := by
  have hn : max (m 0 + m 1 + m 2) 1 = num d := by
    rw [num, Fin.sum_univ_three, hm, hm, hm, max_comm]
  have hfe : ∀ k, facc k * Ideal.div 1 (max (m 0 + m 1 + m 2) 1) = filtE w d f k := fun k => by
    rw [hn, div_num, hf, filtE, Fin.sum_univ_three, hm, hm, hm, mask_mul, mask_mul, mask_mul]
  have hhe : ∀ k, (m 0 * hh 0 k + m 1 * hh 1 k + m 2 * hh 2 k + (m 0 + m 1 + m 2) * w.bh k)
      * Ideal.div 1 (max (m 0 + m 1 + m 2) 1) = histE w d f k := fun k => by
    rw [hn, div_num, histE, Fin.sum_univ_three, hm, hm, hm, masks_mul, mask_mul, mask_mul, mask_mul]
    simp only [hist, ← keep_add, hhh]
    exact congrArg (Ideal.div · (num d)) (by abel)
  have hsm : ∀ k, (w.tableE d.tb k + sample w f k) * w.Wp ⟨201 + k.val, by omega⟩ c
      = w.tableE d.tb k * w.Wp ⟨201 + k.val, by omega⟩ c + (smp k + w.bs k) * w.Wp ⟨201 + k.val, by omega⟩ c := fun k => by
    obtain ⟨a, ha⟩ := ht d.tb k
    obtain ⟨b, hb⟩ := hw k c
    rw [ha, hb, add_mul_fin, sample, hs]
  rw [max_leaky, rowOut, hx]
  refine congrArg leaky ?_
  simp only [hfe, hhe, pre, hsm, Finset.sum_add_distrib, hacc]
  abel

end Cert.Proof

end
-- ==== Proof.Words.lean ====
module

public import proofs.«01_k».proof.Proof.Gen.KernelIdeal.Skeleton
public import proofs.«01_k».proof.Proof.Gen.KernelIdeal
public import Idealize.ShloMosaic.Lib.Pointwise

@[expose] public section

noncomputable section

namespace Cert.Proof

open Idealize.ShloMosaic Cert.KernelIdeal Cert.KernelIdeal.Gen

/-- A one-bit word is zero or one. -/
theorem bit_cases (b : BitVec 1) : b = 0#1 ∨ b = 1#1 := by revert b; decide

/-- The float of a one-bit comparison result is one where the comparison holds and zero elsewhere. -/
theorem bit_float (b : BitVec 1) (p : Prop) [Decidable p] (h : b = 1#1 ↔ p) :
    (FloatOps.sitofp (F := Ideal) .f32 (BitVec.setWidth 32 b) : EReal) = if p then 1 else 0 := by
  have hb : b = 0#1 ∨ b = 1#1 := bit_cases b
  by_cases hp : p
  · rw [if_pos hp, h.2 hp]
    show (((1#32 : BitVec 32).toInt : ℝ) : EReal) = 1
    norm_num
  · have h0 : b = 0#1 := hb.resolve_right (mt h.1 hp)
    rw [if_neg hp, h0]
    show (((0#32 : BitVec 32).toInt : ℝ) : EReal) = 0
    norm_num

/-- The lane number modulo 256, as the kernel computes it. -/
theorem lane_mod (c : Fin 768) :
    k0_pay5 (iota .tc S1x768 32 [1] iota_S1x768_d1_w32) (ix2 0 c) = BitVec.ofNat 32 (c.val % 256) := by
  revert c; decide +kernel

/-- The selection table's word is set at one row of each lane, of the lanes up to the 128th of each 256. -/
theorem sel_word (a : Fin 16) (c : Fin 768) :
    IntOp.andi (IntOp.cmpi .eq (BitVec.ofNat 32 a.val) (BitVec.ofNat 32 (2 + c.val / 256 + 3 * min (c.val % 256 / 64) 2)))
      (IntOp.cmpi .sle (BitVec.ofNat 32 (c.val % 256)) 128#32) = 1#1
    ↔ a.val = 2 + c.val / 256 + 3 * min (c.val % 256 / 64) 2 ∧ c.val % 256 ≤ 128 := by
  revert a c; decide +kernel

/-- The row number divided by three, as the kernel computes it, compared with a column number. -/
theorem rep_word (r : Fin 150) (k : Fin 50) :
    IntOp.cmpi .eq (BitVec.ofNat 32 (r.val / 3)) (BitVec.ofNat 32 k.val) = 1#1 ↔ k.val = r.val / 3 := by
  revert r k; decide +kernel

/-- The row number modulo three, as the kernel computes it. -/
theorem row_mod (r : Fin 150) :
    k0_pay14 (iota .tc S150x1 32 [0] iota_S150x1_d0_w32) (ix2 r 0) = BitVec.ofNat 32 (r.val % 3) := by
  revert r; decide +kernel

/-- The comparison of a remainder with a bin number says whether they are equal. -/
theorem mod_word (r : Fin 150) (j : Fin 3) :
    IntOp.cmpi .eq (BitVec.ofNat 32 (r.val % 3)) (BitVec.ofNat 32 j.val) = 1#1 ↔ r.val % 3 = j.val := by
  revert r j; decide +kernel

/-- A select on a comparison result is the choice by the comparison. -/
theorem select_bit {α : Type} (b : BitVec 1) (p : Prop) [Decidable p] (h : b = 1#1 ↔ p) (x y : α) :
    Scalar.select b x y = if p then x else y := by
  by_cases hp : p
  · rw [if_pos hp, h.2 hp]; rfl
  · rw [if_neg hp, (bit_cases b).resolve_right (mt h.1 hp)]; rfl

/-- The row number divided by three and rounded down, as the kernel computes it. -/
theorem floor_word (r : Fin 150) :
    Scalar.select
      (IntOp.andi
        (IntOp.cmpi .ne
          (IntOp.subi (BitVec.setWidth 32 (IntOp.cmpi .sgt (BitVec.ofNat 32 r.val) 0#32))
            (BitVec.setWidth 32 (IntOp.cmpi .slt (BitVec.ofNat 32 r.val) 0#32)))
          (Scalar.subi (Scalar.extui (Scalar.cmpi .sgt 3#32 0#32)) (Scalar.extui (Scalar.cmpi .slt 3#32 0#32))))
        (IntOp.cmpi .ne (IntOp.remsi .vector (BitVec.ofNat 32 r.val) 3#32) 0#32))
      (IntOp.subi (IntOp.divsi .vector (BitVec.ofNat 32 r.val) 3#32) 1#32)
      (IntOp.divsi .vector (BitVec.ofNat 32 r.val) 3#32) = BitVec.ofNat 32 (r.val / 3) := by
  revert r; decide +kernel

end Cert.Proof

end
-- ==== Proof.Pre.lean ====
module

public import proofs.«01_k».proof.Pre_drawn
public import proofs.«01_k».proof.Proof.Spec
public import proofs.«01_k».proof.Proof.Words
public import Idealize.ShloMosaic.Lib.Pointwise
public import Idealize.ShloMosaic.Lib.IdealHost

@[expose] public section

noncomputable section

namespace Cert.Proof

open Idealize.ShloMosaic

/-- The shapes of the precondition's operations agree. -/
theorem pre_facts : Cert.Pre_drawn.Facts where
  slices_S16384x1165_S16384x3_0_11 := by decide
  slices_S16384x1165_S16384x1_0_0 := by decide
  bcast_S_S16384x1 := by decide
  slices_S16384x1165_S16384x1_0_1 := by decide
  slices_S16384x1165_S16384x3_0_2 := by decide
  bcast_S_S16384x3 := by decide
  slices_S16384x1165_S16384x3_0_5 := by decide
  slices_S16384x1165_S16384x1_0_164 := by decide
  bcast_S_S20x64 := by decide
  slices_S329x64_S64x64_201_0 := by decide
  bcast_S_S64x64 := by decide

/-- The test of one identifier: a whole number at least zero and below `n`. -/
def isId (x : EReal) (n : BitVec 32) : BitVec 1 :=
  IntOp.andi (IntOp.andi (FloatOps.cmpf (F := Ideal) (φ := .f32) .oeq
    (FloatOps.sitofp (F := Ideal) .f32 (FloatOps.fptosi (F := Ideal) (φ := .f32) 32 x)) x)
    (IntOp.cmpi .sge (FloatOps.fptosi (F := Ideal) (φ := .f32) 32 x) 0#32))
    (IntOp.cmpi .slt (FloatOps.fptosi (F := Ideal) (φ := .f32) 32 x) n)

/-- Two bits are both one when their conjunction is. -/
theorem both_one (a b : BitVec 1) (h : IntOp.andi a b = 1#1) : a = 1#1 ∧ b = 1#1 := by
  revert a b; decide

/-- An identifier that passes its test is a natural number below the bound. -/
theorem id_of (x : EReal) (n : ℕ) (hn : n < 2 ^ 31) (h : isId x (BitVec.ofNat 32 n) = 1#1) :
    ∃ k : Fin n, x = ((k.val : ℝ) : EReal) := by
  obtain ⟨h, h3⟩ := both_one _ _ h
  obtain ⟨h1, h2⟩ := both_one _ _ h
  generalize FloatOps.fptosi (F := Ideal) (φ := .f32) 32 x = w at h1 h2 h3
  have e1 : ((w.toInt : ℝ) : EReal) = x := by
    have : BitVec.ofBool (decide (((w.toInt : ℝ) : EReal) = x)) = 1#1 := h1
    by_contra hc
    simp [hc] at this
  have e2 : 0 ≤ w.toInt := by
    by_contra hc
    simp [IntOp.cmpi, BitVec.sle, hc] at h2
  have e3 : w.toInt < n := by
    by_contra hc
    have hb : (BitVec.ofNat 32 n).toInt = n := by
      rw [BitVec.toInt_ofNat']; simp [Int.bmod]; omega
    simp [IntOp.cmpi, BitVec.slt, hb, hc] at h3
  refine ⟨⟨w.toInt.toNat, by omega⟩, ?_⟩
  rw [← e1]
  congr 1
  have : (w.toInt.toNat : ℤ) = w.toInt := by omega
  exact_mod_cast this.symm

/-- A number that is zero or one is one exactly where a truth value says so. -/
theorem mask_of (x : EReal)
    (h : IntOp.ori (BitVec.ofBool (decide (x = 0))) (BitVec.ofBool (decide (x = 1))) = 1#1) :
    ∃ b : Bool, x = if b then 1 else 0 := by
  by_cases h0 : x = 0
  · exact ⟨false, by simp [h0]⟩
  by_cases h1 : x = 1
  · exact ⟨true, by simp [h1]⟩
  simp [h0, h1, IntOp.ori] at h

/-- A number whose absolute value is below infinity is a real number. -/
theorem real_of (x : EReal)
    (h : BitVec.ofBool (decide ((FloatOps.absf (F := Ideal) (φ := .f32) x : EReal) < Ideal.ofBits .f32 2139095040#32)) = 1#1) :
    ∃ r : ℝ, x = r := by
  have top : Ideal.ofBits .f32 2139095040#32 = ⊤ := by simp [Ideal.ofBits, Ideal.ieee]
  have h' : max x (-x) < ⊤ := by
    by_contra hc
    have : ¬ (FloatOps.absf (F := Ideal) (φ := .f32) x : EReal) < ⊤ := hc
    simp [top, this] at h
  rw [max_lt_iff] at h'
  have hb : x ≠ ⊥ := by rintro rfl; simp at h'
  exact ⟨x.toReal, (EReal.coe_toReal h'.1.ne hb).symm⟩

/-- What the precondition says of the features, the table embeddings and the output weights. -/
structure Drawn (a0 : Vec Ideal ⟨2, ![16384, 1165]⟩ .f32) (a2 : Vec Ideal ⟨2, ![20, 64]⟩ .f32)
    (a14 : Vec Ideal ⟨2, ![329, 64]⟩ .f32) : Prop where
  ids : ∀ r : Fin 16384, ∃ d : Ids, Holds (fun k => a0 (ix2 r k)) d
  table : ∀ a k, ∃ r : ℝ, a2 (ix2 a k) = r
  weight : ∀ k c : Fin 64, ∃ r : ℝ, a14 (ix2 ⟨201 + k.val, by omega⟩ c) = r

section
variable [hf : Cert.Pre_drawn.Facts]
variable {a0 : Vec Ideal ⟨2, ![16384, 1165]⟩ .f32} {a1 a2 : Vec Ideal ⟨2, ![20, 64]⟩ .f32} {a3 : Vec Ideal ⟨2, ![30, 64]⟩ .f32}
  {a4 : Vec Ideal ⟨2, ![10, 8]⟩ .f32} {a5 : Vec Ideal ⟨2, ![10, 64]⟩ .f32} {a6 : Vec Ideal ⟨2, ![73, 73]⟩ .f32}
  {a7 : Vec Ideal ⟨1, ![73]⟩ .f32} {a8 : Vec Ideal ⟨2, ![73, 73]⟩ .f32} {a9 : Vec Ideal ⟨1, ![73]⟩ .f32}
  {a10 : Vec Ideal ⟨2, ![1000, 64]⟩ .f32} {a11 : Vec Ideal ⟨1, ![64]⟩ .f32} {a12 : Vec Ideal ⟨2, ![50, 64]⟩ .f32}
  {a13 : Vec Ideal ⟨1, ![64]⟩ .f32} {a14 : Vec Ideal ⟨2, ![329, 64]⟩ .f32} {a15 : Vec Ideal ⟨1, ![64]⟩ .f32}

/-- The precondition's eight tests, all passed, give what `Drawn` says. -/
theorem drawn_of (t : _) (ht : Cert.Pre_drawn.fn (F := Ideal) a0 a1 a2 a3 a4 a5 a6 a7 a8 a9 a10 a11 a12 a13 a14 a15 = t)
    (h1 : t.1 = fun _ => 1#1) (h2 : t.2.1 = fun _ => 1#1) (h3 : t.2.2.1 = fun _ => 1#1) (h4 : t.2.2.2.1 = fun _ => 1#1)
    (h5 : t.2.2.2.2.1 = fun _ => 1#1) (h6 : t.2.2.2.2.2.1 = fun _ => 1#1) (h7 : t.2.2.2.2.2.2.1 = fun _ => 1#1)
    (h8 : t.2.2.2.2.2.2.2 = fun _ => 1#1) : Drawn a0 a2 a14 := by
  subst ht
  refine ⟨fun r => ?_, fun a k => ?_, fun k c => ?_⟩
  · have g1 : isId (a0 (ix2 r 0)) 20#32 = 1#1 := by
      rw [← congrFun h1 (ix2 r 0)]
      pointwise [Cert.Pre_drawn.fn, Cert.Pre_drawn.fn_part1, Cert.Pre_drawn.fn_part2, Cert.Pre_drawn.fn_part3, isId]
    have g2 : isId (a0 (ix2 r 1)) 10#32 = 1#1 := by
      rw [← congrFun h2 (ix2 r 0)]
      pointwise [Cert.Pre_drawn.fn, Cert.Pre_drawn.fn_part1, Cert.Pre_drawn.fn_part2, Cert.Pre_drawn.fn_part3, isId]
    have g3 : ∀ j : Fin 3, isId (a0 (ix2 r ⟨2 + j.val, by omega⟩)) 30#32 = 1#1 := fun j => by
      rw [← congrFun h3 (ix2 r j)]
      pointwise [Cert.Pre_drawn.fn, Cert.Pre_drawn.fn_part1, Cert.Pre_drawn.fn_part2, Cert.Pre_drawn.fn_part3, isId]
    have g4 : ∀ j : Fin 3, isId (a0 (ix2 r ⟨5 + j.val, by omega⟩)) 10#32 = 1#1 := fun j => by
      rw [← congrFun h4 (ix2 r j)]
      pointwise [Cert.Pre_drawn.fn, Cert.Pre_drawn.fn_part1, Cert.Pre_drawn.fn_part2, Cert.Pre_drawn.fn_part3, isId]
    have g5 : isId (a0 (ix2 r ⟨164, by omega⟩)) 20#32 = 1#1 := by
      rw [← congrFun h5 (ix2 r 0)]
      pointwise [Cert.Pre_drawn.fn, Cert.Pre_drawn.fn_part1, Cert.Pre_drawn.fn_part2, Cert.Pre_drawn.fn_part3, isId]
    have g6 : ∀ j : Fin 3, ∃ b : Bool, a0 (ix2 r ⟨11 + j.val, by omega⟩) = if b then 1 else 0 := fun j => mask_of _ (by
      rw [← congrFun h6 (ix2 r j)]
      pointwise [Cert.Pre_drawn.fn, Cert.Pre_drawn.fn_part1, Cert.Pre_drawn.fn_part2, Cert.Pre_drawn.fn_part3])
    obtain ⟨ty, k1⟩ := id_of _ 20 (by norm_num) g1
    obtain ⟨jn, k2⟩ := id_of _ 10 (by norm_num) g2
    choose col k3 using fun j => id_of _ 30 (by norm_num) (g3 j)
    choose op k4 using fun j => id_of _ 10 (by norm_num) (g4 j)
    obtain ⟨tb, k5⟩ := id_of _ 20 (by norm_num) g5
    choose on k6 using g6
    exact ⟨⟨ty, jn, col, op, tb, on⟩, k1, k2, k3, k4, k5, k6⟩
  · refine real_of _ ?_
    rw [← congrFun h7 (ix2 a k)]
    pointwise [Cert.Pre_drawn.fn, Cert.Pre_drawn.fn_part1, Cert.Pre_drawn.fn_part2, Cert.Pre_drawn.fn_part3]
  · refine real_of _ ?_
    rw [← congrFun h8 (ix2 k c)]
    pointwise [Cert.Pre_drawn.fn, Cert.Pre_drawn.fn_part1, Cert.Pre_drawn.fn_part2, Cert.Pre_drawn.fn_part3]

end

end Cert.Proof
end
-- ==== Proof.Run.lean ====
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the kernel has run, every buffer of every device holds what the last boundary says it holds. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The result array after the run. -/
theorem run_result (c : Dev nD) : W3 m ρ c (Proc.devRef .tc main_v12) = (dat1 (V2 m ρ) c).arrAt 15 cfg1.N :=
  W3_arr m ρ c 15

/-- A reference of the program is among those the run accounts for. -/
theorem accounted (c : Dev nD) (r : PUnit × MemSt nD τ sig (Elt F))
    (h : ∀ b ∈ Pipeline.ucRefs τ sig, r.2.mem (((c : Thread nD τ)).1, b) = W3 m ρ c b) (a : Ref sig .tc)
    (ha : Proc.devRef .tc a ∈ Pipeline.ucRefs τ sig) : r.2.mem ((c.tc : Thread nD τ).loc a) = W3 m ρ c (Proc.devRef .tc a) :=
  h _ ha

/-- An argument array after the run is as it was at launch. -/
theorem kept (c : Dev nD) (r : PUnit × MemSt nD τ sig (Elt F))
    (h : ∀ b ∈ Pipeline.ucRefs τ sig, r.2.mem (((c : Thread nD τ)).1, b) = W3 m ρ c b) (a : Ref sig .tc)
    (ha : a ∈ argRefs) (hu : Proc.devRef .tc a ∈ Pipeline.ucRefs τ sig) :
    r.2.mem ((c.tc : Thread nD τ).loc a) = m ((c.tc : Thread nD τ).loc a) :=
  (h _ hu).trans (W3_args m ρ c a ha)

end Cert.Proof
end
-- ==== Proof.Tables.lean ====
module

public import proofs.«01_k».proof.Proof.Gen.KernelIdeal.Frame
public import proofs.«01_k».proof.Proof.Gen.KernelIdeal
public import proofs.«01_k».proof.Proof.Words

@[expose] public section

noncomputable section

namespace Cert.Proof

open Idealize.ShloMosaic Cert.KernelIdeal Cert.KernelIdeal.Gen

variable (x0 x1 : Vec Ideal S20x64 .f32) (x2 : Vec Ideal S30x64 .f32) (x3 : Vec Ideal S10x8 .f32)
  (x4 : Vec Ideal S10x64 .f32) (x5 : Vec Ideal S73x73 .f32) (x6 : Vec Ideal S50x64 .f32) (x7 : Vec Ideal S329x64 .f32)

/-- The offset of a load or store of a whole two-axis buffer. -/
theorem off2 : (![0, 0] : Fin 2 → ℕ) = fun _ => 0 := by decide

/-- The table of the three small embeddings, as the program writes it. -/
theorem t64_eq : out0_8 (F := Ideal) x0 x1 x2 x3 x4 x5 x6 x7 = k0_pay2 x7 x0 x4 x1 := by
  have h7 : View.ld x7 r0_0 = x7 := View.ld_unit_zero off2 _ _
  have h0 : View.ld x0 r0_1 = x0 := View.ld_unit_zero off2 _ _
  have h1 : View.ld x1 r0_1 = x1 := View.ld_unit_zero off2 _ _
  have h4 : View.ld x4 r0_2 = x4 := View.ld_unit_zero off2 _ _
  unfold out0_8
  rw [View.canon_unit_zero off2, h7, h0, h1, h4]

/-- The rows of the first table that belong to the plan types: the type embedding times its rows of `Wp`. -/
theorem t64_type (a : Fin 20) (c : Fin 64) :
    out0_8 (F := Ideal) x0 x1 x2 x3 x4 x5 x6 x7 (ix2 ⟨a.val, by omega⟩ c)
      = ∑ k : Fin 64, x0 (ix2 a k) * x7 (ix2 ⟨k.val, by omega⟩ c) := by
  rw [t64_eq]
  pointwise [k0_pay2, dot_S20x64_S64x64_S20x64_1_0_0_1_n_n]

/-- The rows that belong to the joins. -/
theorem t64_join (a : Fin 10) (c : Fin 64) :
    out0_8 (F := Ideal) x0 x1 x2 x3 x4 x5 x6 x7 (ix2 ⟨20 + a.val, by omega⟩ c)
      = ∑ k : Fin 64, x4 (ix2 a k) * x7 (ix2 ⟨137 + k.val, by omega⟩ c) := by
  rw [t64_eq]
  pointwise [k0_pay2, dot_S10x64_S64x64_S10x64_1_0_0_1_n_n]

/-- The rows that belong to the tables. -/
theorem t64_table (a : Fin 20) (c : Fin 64) :
    out0_8 (F := Ideal) x0 x1 x2 x3 x4 x5 x6 x7 (ix2 ⟨30 + a.val, by omega⟩ c)
      = ∑ k : Fin 64, x1 (ix2 a k) * x7 (ix2 ⟨201 + k.val, by omega⟩ c) := by
  rw [t64_eq]
  pointwise [k0_pay2, dot_S20x64_S64x64_S20x64_1_0_0_1_n_n]
  rw [dif_neg (by omega), dif_neg (by omega), dif_pos (by omega)]
  simp only [show 30 + a.val - 20 - 10 = a.val by omega]

/-- The filter table, as the program writes it. -/
theorem w256_eq : out0_9 (F := Ideal) x0 x1 x2 x3 x4 x5 x6 x7 = k0_pay3 x5 x2 x3 := by
  have h5 : View.ld x5 r0_4 = x5 := View.ld_unit_zero off2 _ _
  have h2 : View.ld x2 r0_5 = x2 := View.ld_unit_zero off2 _ _
  have h3 : View.ld x3 r0_6 = x3 := View.ld_unit_zero off2 _ _
  unfold out0_9
  rw [View.canon_unit_zero off2, h5, h2, h3]

/-- The rows of the filter table that belong to the columns. -/
theorem w256_col (a : Fin 30) (l : Fin 73) :
    out0_9 (F := Ideal) x0 x1 x2 x3 x4 x5 x6 x7 (ix2 ⟨a.val, by omega⟩ l)
      = ∑ k : Fin 64, x2 (ix2 a k) * x5 (ix2 ⟨k.val, by omega⟩ l) := by
  rw [w256_eq]
  pointwise [k0_pay3, dot_S30x64_S64x73_S30x73_1_0_0_1_n_n]

/-- The rows that belong to the operators. -/
theorem w256_op (a : Fin 10) (l : Fin 73) :
    out0_9 (F := Ideal) x0 x1 x2 x3 x4 x5 x6 x7 (ix2 ⟨64 + a.val, by omega⟩ l)
      = ∑ k : Fin 8, x3 (ix2 a k) * x5 (ix2 ⟨64 + k.val, by omega⟩ l) := by
  rw [w256_eq]
  pointwise [k0_pay3, dot_S10x8_S8x73_S10x73_1_0_0_1_n_n]
  rw [dif_neg (by omega), dif_neg (by omega), dif_pos (by omega)]
  simp only [show 64 + a.val - 30 - 34 = a.val by omega]

/-- The row that meets the filter's constant. -/
theorem w256_val (l : Fin 73) :
    out0_9 (F := Ideal) x0 x1 x2 x3 x4 x5 x6 x7 (ix2 ⟨128, by omega⟩ l) = x5 (ix2 ⟨72, by omega⟩ l) := by
  rw [w256_eq]
  pointwise [k0_pay3]

/-- The selection table: lane `c` reads the feature column that holds what the lane is compared with. -/
theorem e_apply (a : Fin 16) (c : Fin 768) :
    out0_10 (F := Ideal) x0 x1 x2 x3 x4 x5 x6 x7 (ix2 a c)
      = if a.val = 2 + c.val / 256 + 3 * min (c.val % 256 / 64) 2 ∧ c.val % 256 ≤ 128 then 1 else 0 := by
  unfold_out out0_10
  rw [View.canon_unit_zero off2, ← bit_float _ _ (sel_word a c)]
  pointwise [k0_pay9, k0_pay6, k0_pay7, k0_pay8, k0_pay4]
  refine congrArg₂ (fun W S => FloatOps.sitofp (F := Ideal) .f32 (BitVec.setWidth 32
    (IntOp.andi (IntOp.cmpi .eq (BitVec.ofNat 32 a.val) W) (IntOp.cmpi .sle S 128#32)))) ?_ (lane_mod c)
  clear a
  revert c; decide +kernel

/-- Each row of the histogram weights three times over. -/
theorem rep_apply (r : Fin 150) (c : Fin 64) :
    k0_pay13 (F := Ideal) x6 (iota .tc S150x1 32 [0] iota_S150x1_d0_w32) (iota .tc S1x50 32 [1] iota_S1x50_d1_w32) 3#32
      k0_pay10 k0_pay11 k0_pay12 (ix2 r c) = x6 (ix2 ⟨r.val / 3, by omega⟩ c) := by
  pointwise [k0_pay13, dot_S150x50_S50x64_S150x64_1_0_0_1_n_n, k0_pay10, k0_pay11, k0_pay12]
  have h : ∀ k : Fin 50, (FloatOps.sitofp (F := Ideal) .f32 (BitVec.setWidth 32
      (IntOp.cmpi .eq (BitVec.ofNat 32 (r.val / 3)) (BitVec.ofNat 32 k.val))) : EReal)
        = if k.val = r.val / 3 then 1 else 0 := fun k => bit_float _ _ (rep_word r k)
  refine (Finset.sum_congr rfl fun k _ => congrArg (· * x6 (ix2 k c)) ((congrArg (fun W => FloatOps.sitofp (F := Ideal)
    .f32 (BitVec.setWidth 32 (IntOp.cmpi .eq W (BitVec.ofNat 32 k.val)))) ?_).trans (h k))).trans ?_
  · clear h; revert k; exact fun _ _ => floor_word r
  · rw [Finset.sum_eq_single (⟨r.val / 3, by omega⟩ : Fin 50)]
    · simp
    · intro k _ hk
      rw [if_neg (fun e => hk (Fin.ext e)), zero_mul]
    · simp

/-- The strided histogram weights: the middle 150 rows, in the lanes of the j-th of each three. -/
theorem whh_in (r : Fin 150) (j : Fin 3) (c : Fin 64) (r' : Fin 256) (c' : Fin 192) (hr : r'.val = 14 + r.val)
    (hc : c'.val = 64 * j.val + c.val) :
    out0_11 (F := Ideal) x0 x1 x2 x3 x4 x5 x6 x7 (ix2 r' c')
      = if r.val % 3 = j.val then x6 (ix2 ⟨r.val / 3, by omega⟩ c) else 0 := by
  have h6 : View.ld x6 r0_9 = x6 := View.ld_unit_zero off2 _ _
  unfold_out out0_11
  rw [View.canon_unit_zero off2, h6, ← select_bit _ _ (mod_word r j), ← row_mod r, ← rep_apply x6 r c]
  have hb : r'.val - 14 < 150 := by omega
  have e : (⟨r'.val - 14, hb⟩ : Fin 150) = r := Fin.ext (by show r'.val - 14 = r.val; omega)
  pointwise [k0_pay1, k0_pay15, k0_pay16]
  rw [dif_neg (by omega : ¬ r'.val < 14), dif_pos hb]
  simp only [e]
  fin_cases j
  · have h0 : c'.val < 64 := by simp only [] at hc; omega
    have e0 : (⟨c'.val, h0⟩ : Fin 64) = c := Fin.ext (by simp only [] at hc; show c'.val = c.val; omega)
    rw [dif_pos h0, e0]
  · have h0 : ¬ c'.val < 64 := by simp only [] at hc; omega
    have h1 : c'.val - 64 < 64 := by simp only [] at hc; omega
    have e0 : (⟨c'.val - 64, h1⟩ : Fin 64) = c := Fin.ext (by simp only [] at hc; show c'.val - 64 = c.val; omega)
    rw [dif_neg h0, dif_pos h1, e0]
  · have h0 : ¬ c'.val < 64 := by simp only [] at hc; omega
    have h1 : ¬ c'.val - 64 < 64 := by simp only [] at hc; omega
    have h2 : c'.val - 64 - 64 < 64 := by simp only [] at hc; omega
    have e0 : (⟨c'.val - 64 - 64, h2⟩ : Fin 64) = c := Fin.ext (by simp only [] at hc; show c'.val - 64 - 64 = c.val; omega)
    rw [dif_neg h0, dif_neg h1, e0]

/-- The rows above and below them are zero. -/
theorem whh_out (r : Fin 256) (c : Fin 192) (h : r.val < 14 ∨ 164 ≤ r.val) :
    out0_11 (F := Ideal) x0 x1 x2 x3 x4 x5 x6 x7 (ix2 r c) = 0 := by
  unfold_out out0_11
  rw [View.canon_unit_zero off2]
  pointwise [k0_pay1]
  rcases h with h | h
  · rw [dif_pos h]
  · rw [dif_neg (by omega : ¬ r.val < 14), dif_neg (by omega : ¬ r.val - 14 < 150)]

end Cert.Proof
end
-- ==== Proof.Block.lean ====
module

public import proofs.«01_k».proof.Proof.Gen.KernelIdeal.Frame
public import proofs.«01_k».proof.Proof.Gen.KernelIdeal
public import proofs.«01_k».proof.Proof.Words
public import proofs.«01_k».proof.Proof.Spec

@[expose] public section

noncomputable section

namespace Cert.Proof

open Idealize.ShloMosaic Cert.KernelIdeal Cert.KernelIdeal.Gen

/-! # The payloads of the main pass, read at an index -/

/-- The integer word of a small number has that number as its float. -/
theorem nat_float (n : Fin 256) : (FloatOps.sitofp (F := Ideal) .f32 (BitVec.ofNat 32 n.val) : EReal) = ((n.val : ℝ) : EReal) := by
  show ((((BitVec.ofNat 32 n.val).toInt : ℤ) : ℝ) : EReal) = _
  have h : (BitVec.ofNat 32 n.val).toInt = (n.val : ℤ) := by revert n; decide +kernel
  rw [h]; norm_cast

/-- Two natural numbers are equal as extended reals exactly when they are equal. -/
theorem nat_eq (a b : ℕ) : ((a : ℝ) : EReal) = ((b : ℝ) : EReal) ↔ a = b := by
  rw [EReal.coe_eq_coe_iff]; exact_mod_cast Iff.rfl

/-- A float comparison's result as a float: one where the two are equal. -/
theorem eq_float (x y : EReal) :
    (FloatOps.sitofp (F := Ideal) .f32 (BitVec.setWidth 32 (BitVec.ofBool (decide (x = y)))) : EReal) = if x = y then 1 else 0 :=
  bit_float _ _ (by by_cases h : x = y <;> simp [h])

/-- The literal twenty. -/
theorem twenty : Ideal.ofBits .f32 1101004800#32 = ((20 : ℝ) : EReal) := by
  simp [Ideal.ofBits, Ideal.ieee, -EReal.coe_mul]; norm_num

/-- The literal thirty. -/
theorem thirty : Ideal.ofBits .f32 1106247680#32 = ((30 : ℝ) : EReal) := by
  simp [Ideal.ofBits, Ideal.ieee, -EReal.coe_mul]; norm_num

/-- A three-hot row against a table is the sum of the three rows it names. -/
theorem three_hot (T : Fin 64 → EReal) (a : Fin 20) (b : Fin 10) (c : Fin 20) :
    ∑ k : Fin 64, ((if k.val = a.val then (1 : EReal) else 0) + (if k.val = 20 + b.val then 1 else 0)
      + (if k.val = 30 + c.val then 1 else 0)) * T k
    = T ⟨a.val, by omega⟩ + T ⟨20 + b.val, by omega⟩ + T ⟨30 + c.val, by omega⟩ := by
  have h : ∀ k : Fin 64, ((if k.val = a.val then (1 : EReal) else 0) + (if k.val = 20 + b.val then 1 else 0)
      + (if k.val = 30 + c.val then 1 else 0)) * T k
      = (if k = (⟨a.val, by omega⟩ : Fin 64) then T k else 0) + (if k = (⟨20 + b.val, by omega⟩ : Fin 64) then T k else 0)
        + (if k = (⟨30 + c.val, by omega⟩ : Fin 64) then T k else 0) := fun k => by
    simp only [Fin.ext_iff]
    split_ifs <;> first | omega | simp
  simp only [h, Finset.sum_add_distrib, Finset.sum_ite_eq', Finset.mem_univ, if_true]

/-- The product with the merged table: its three rows named by the type, the join and the table. -/
theorem pay2_apply (v0 : Vec Ideal S1024x16 .f32) (v18 : Vec Ideal S1024x1 .f32) (T : Vec Ideal S64x64 .f32)
    (p : Fin 1024) (c : Fin 64) (ty : Fin 20) (jn : Fin 10) (tb : Fin 20) (hty : v0 (ix2 p 0) = ((ty.val : ℝ) : EReal))
    (hjn : v0 (ix2 p 1) = ((jn.val : ℝ) : EReal)) (htb : v18 (ix2 p 0) = ((tb.val : ℝ) : EReal)) :
    k1_pay2 (F := Ideal) v0 v18 T (ix2 p c)
      = T (ix2 ⟨ty.val, by omega⟩ c) + T (ix2 ⟨20 + jn.val, by omega⟩ c) + T (ix2 ⟨30 + tb.val, by omega⟩ c) := by
  rw [← three_hot (fun k => T (ix2 k c)) ty jn tb]
  pointwise [k1_pay2, dot_S1024x64_S64x64_S1024x64_1_0_0_1_n_n]
  refine Finset.sum_congr rfl fun k _ => congrArg (· * T (ix2 k c)) ?_
  have hk := nat_float ⟨k.val, by omega⟩
  have h20 : ((jn.val : ℝ) : EReal) + ((20 : ℝ) : EReal) = (((20 + jn.val : ℕ) : ℝ) : EReal) := by
    rw [← EReal.coe_add]; push_cast; rw [add_comm]
  have h30 : ((tb.val : ℝ) : EReal) + ((30 : ℝ) : EReal) = (((30 + tb.val : ℕ) : ℝ) : EReal) := by
    rw [← EReal.coe_add]; push_cast; rw [add_comm]
  rw [eq_float, eq_float, eq_float]
  simp only [hk, hty, hjn, htb, twenty, thirty, h20, h30, nat_eq]

/-- The product with the selection table. -/
theorem pay3_apply (v0 : Vec Ideal S1024x16 .f32) (E : Vec Ideal S16x768 .f32) (p : Fin 1024) (c : Fin 768) :
    k1_pay3 (F := Ideal) v0 E (ix2 p c) = ∑ k : Fin 16, v0 (ix2 p k) * E (ix2 k c) := by
  pointwise [k1_pay3, dot_S1024x16_S16x768_S1024x768_1_0_0_1_n_n]

/-- The filter layers of three stacked blocks, masked and added. -/
theorem pay13_apply (m0 m1 m2 : FVec Ideal S1024x1 .f32) (W : Vec Ideal S73x73 .f32) (b b2 : FVec Ideal S1x73 .f32)
    (h : FVec Ideal S3072x73 .f32) (p : Fin 1024) (l : Fin 73) :
    k1_pay13 (F := Ideal) m0 m1 m2 W b b2 h (ix2 p l)
      = m0 (ix2 p 0) * leaky (∑ k : Fin 73, leaky (h (ix2 ⟨p.val, by omega⟩ k) + b (ix2 0 k)) * W (ix2 k l) + b2 (ix2 0 l))
        + m1 (ix2 p 0) * leaky (∑ k : Fin 73, leaky (h (ix2 ⟨1024 + p.val, by omega⟩ k) + b (ix2 0 k)) * W (ix2 k l) + b2 (ix2 0 l))
        + m2 (ix2 p 0) * leaky (∑ k : Fin 73, leaky (h (ix2 ⟨2048 + p.val, by omega⟩ k) + b (ix2 0 k)) * W (ix2 k l) + b2 (ix2 0 l)) := by
  simp only [← max_leaky, slope]
  pointwise [k1_pay13, dot_S3072x73_S73x73_S3072x73_1_0_0_1_n_n]
  rw [dif_neg (by omega : ¬ 2048 + p.val < 1024), dif_neg (by omega : ¬ 2048 + p.val - 1024 < 1024)]
  have hp : (⟨2048 + p.val - 1024 - 1024, by omega⟩ : Fin 1024) = p := Fin.ext (by show 2048 + p.val - 1024 - 1024 = p.val; omega)
  rw [hp]

/-- The reciprocal of the count. -/
theorem pay15_apply (m0 m1 m2 : FVec Ideal S1024x1 .f32) (p : Fin 1024) :
    k1_pay15 (F := Ideal) m0 m1 m2 (ix2 p 0) = Ideal.div 1 (max (m0 (ix2 p 0) + m1 (ix2 p 0) + m2 (ix2 p 0)) 1) := by
  pointwise [k1_pay15, k1_pay14]

/-- The histogram embedding. -/
theorem pay16_apply (m0 m1 m2 : FVec Ideal S1024x1 .f32) (x : Vec Ideal S1024x256 .f32) (W : Vec Ideal S256x192 .f32)
    (b : Vec Ideal S1x64 .f32) (p : Fin 1024) (c : Fin 64) :
    k1_pay16 (F := Ideal) m0 m1 m2 x W b (ix2 p c)
      = (m0 (ix2 p 0) * (∑ k : Fin 256, x (ix2 p k) * W (ix2 k ⟨c.val, by omega⟩))
          + m1 (ix2 p 0) * (∑ k : Fin 256, x (ix2 p k) * W (ix2 k ⟨64 + c.val, by omega⟩))
          + m2 (ix2 p 0) * (∑ k : Fin 256, x (ix2 p k) * W (ix2 k ⟨128 + c.val, by omega⟩))
          + (m0 (ix2 p 0) + m1 (ix2 p 0) + m2 (ix2 p 0)) * b (ix2 0 c))
        * Ideal.div 1 (max (m0 (ix2 p 0) + m1 (ix2 p 0) + m2 (ix2 p 0)) 1) := by
  pointwise [k1_pay16, k1_pay15, k1_pay14, dot_S1024x256_S256x192_S1024x192_1_0_0_1_n_n]

/-- The last layer. -/
theorem pay1_apply (a : FVec Ideal S1024x64 .f32) (f : FVec Ideal S1024x73 .f32) (r : FVec Ideal S1024x1 .f32) (h : FVec Ideal S1024x64 .f32)
    (x : Vec Ideal S1024x1037 .f32) (Ws : Vec Ideal S1040x64 .f32) (Wf : Vec Ideal S73x64 .f32) (bs : Vec Ideal S1x64 .f32)
    (Wt Wh : Vec Ideal S64x64 .f32) (bp : Vec Ideal S1x64 .f32) (p : Fin 1024) (c : Fin 64) (y : EReal)
    (hy : y = a (ix2 p c) + ∑ k : Fin 73, f (ix2 p k) * r (ix2 p 0) * Wf (ix2 k c)
      + ∑ k : Fin 64, (∑ q : Fin 1037, x (ix2 p q) * Ws (ix2 ⟨q.val, by omega⟩ k) + bs (ix2 0 k)) * Wt (ix2 k c)
      + ∑ k : Fin 64, h (ix2 p k) * Wh (ix2 k c) + bp (ix2 0 c)) :
    k1_pay1 (F := Ideal) a f r h x Ws Wf bs Wt Wh bp (ix2 p c) = max y (slope * y) := by
  rw [hy, slope]
  pointwise [k1_pay1, dot_S1024x1037_S1037x64_S1024x64_1_0_0_1_n_n, dot_S1024x73_S73x64_S1024x64_1_0_0_1_n_n, dot_S1024x64_S64x64_S1024x64_1_0_0_1_n_n]

end Cert.Proof

end
-- ==== Proof.Lanes.lean ====
module

public import proofs.«01_k».proof.Proof.Block

@[expose] public section

noncomputable section

namespace Cert.Proof

open Idealize.ShloMosaic Cert.KernelIdeal Cert.KernelIdeal.Gen

/-! # The filters' one-hot rows, lane by lane

Each filter has 256 lanes: the first 64 stand for the columns, the next 64 for the operators, lane 128 for the value, and
the rest for nothing. -/

/-- The lane number within its filter, from the words the kernel computes it by. -/
def laneWord (w s : BitVec 32) (n g : BitVec 1) : BitVec 32 :=
  Scalar.select (IntOp.andi (IntOp.xori g (Scalar.cmpi .slt w 0#32)) n) (IntOp.addi s w) s

/-- What a lane of word `M` holds when it is compared with `v`. -/
def laneVal (M : BitVec 32) (v : EReal) : EReal :=
  FloatOps.sitofp (F := Ideal) .f32 (BitVec.setWidth 32 (BitVec.ofBool (decide (v
    = FloatOps.sitofp (F := Ideal) .f32 (Scalar.select (IntOp.cmpi .slt M 64#32) M (IntOp.subi M 64#32))))))
    * FloatOps.sitofp (F := Ideal) .f32 (BitVec.setWidth 32 (IntOp.cmpi .slt M 128#32))
  + v * FloatOps.sitofp (F := Ideal) .f32 (BitVec.setWidth 32 (IntOp.cmpi .eq M 128#32))

set_option maxRecDepth 20000 in
/-- The product with the filters' table, row `p` of stacked filter `j`: a sum over the filter's lanes. -/
theorem pay12_apply (V : FVec Ideal S1024x768 .f32) (w : BitVec 32) (s : IVec S1x768 32) (n g : IVec S1x768 1) (W : Vec Ideal S256x73 .f32)
    (r : Fin 3072) (l : Fin 73) (j : Fin 3) (p : Fin 1024) (hr : r.val = 1024 * j.val + p.val) :
    k1_pay12 (F := Ideal) V w s n g W (ix2 r l)
      = ∑ k : Fin 256, laneVal (laneWord w (s (ix2 0 ⟨256 * j.val + k.val, by omega⟩)) (n (ix2 0 ⟨256 * j.val + k.val, by omega⟩))
          (g (ix2 0 ⟨256 * j.val + k.val, by omega⟩))) (V (ix2 p ⟨256 * j.val + k.val, by omega⟩)) * W (ix2 k l) := by
  unfold laneVal laneWord
  pointwise [k1_pay12, dot_S3072x256_S256x73_S3072x73_1_0_0_1_n_n]
  refine Finset.sum_congr rfl fun k _ => congrArg (· * W (ix2 k l)) ?_
  have hp := p.isLt
  have hj : j = 0 ∨ j = 1 ∨ j = 2 := by omega
  rcases hj with rfl | rfl | rfl
  · replace hr : r.val = p.val := by rw [hr]; show 1024 * 0 + p.val = p.val; omega
    have e : (⟨r.val, by omega⟩ : Fin 1024) = p := Fin.ext (by show r.val = p.val; omega)
    rw [dif_pos (by omega : r.val < 1024), e,
      show (⟨256 * (0 : Fin 3).val + k.val, by omega⟩ : Fin 768) = ⟨k.val, by omega⟩ from Fin.ext (by show 256 * 0 + k.val = k.val; omega)]
  · replace hr : r.val = 1024 + p.val := hr
    have e : (⟨r.val - 1024, by omega⟩ : Fin 1024) = p := Fin.ext (by show r.val - 1024 = p.val; omega)
    rw [dif_neg (by omega : ¬ r.val < 1024), dif_pos (by omega : r.val - 1024 < 1024), e,
      show (⟨256 * (1 : Fin 3).val + k.val, by omega⟩ : Fin 768) = ⟨256 + k.val, by omega⟩ from Fin.ext (rfl)]
  · replace hr : r.val = 2048 + p.val := hr
    have e : (⟨r.val - 1024 - 1024, by omega⟩ : Fin 1024) = p := Fin.ext (by show r.val - 1024 - 1024 = p.val; omega)
    rw [dif_neg (by omega : ¬ r.val < 1024), dif_neg (by omega : ¬ r.val - 1024 < 1024), e,
      show (⟨256 * (2 : Fin 3).val + k.val, by omega⟩ : Fin 768) = ⟨512 + k.val, by omega⟩ from Fin.ext (rfl)]

/-- The lane number modulo 256, as the main pass computes it. -/
theorem lane_word (c : Fin 768) :
    laneWord (Scalar.select (Scalar.cmpi .eq 256#32 0#32) 1#32 256#32) (k1_pay4 (ix2 0 c)) (k1_pay5 (ix2 0 c)) (k1_pay6 (ix2 0 c))
      = BitVec.ofNat 32 (c.val % 256) := by
  revert c; decide +kernel

/-- The identifier that a lane stands for: the lane itself among the first 64, 64 less after them. -/
theorem lane_pos (m : Fin 256) :
    Scalar.select (IntOp.cmpi .slt (BitVec.ofNat 32 m.val) 64#32) (BitVec.ofNat 32 m.val) (IntOp.subi (BitVec.ofNat 32 m.val) 64#32)
      = BitVec.ofNat 32 (if m.val < 64 then m.val else m.val - 64) := by
  revert m; decide +kernel

/-- The comparison of a lane with 128 says whether the lane is below it. -/
theorem lane_low (m : Fin 256) : IntOp.cmpi .slt (BitVec.ofNat 32 m.val) 128#32 = 1#1 ↔ m.val < 128 := by
  revert m; decide +kernel

/-- The comparison of a lane with 128 says whether the lane is the one that holds the value. -/
theorem lane_last (m : Fin 256) : IntOp.cmpi .eq (BitVec.ofNat 32 m.val) 128#32 = 1#1 ↔ m.val = 128 := by
  revert m; decide +kernel

/-- A lane's content by the lane's number. -/
theorem laneVal_eq (m : Fin 256) (v : EReal) : laneVal (BitVec.ofNat 32 m.val) v
    = if m.val < 64 then (if v = ((m.val : ℝ) : EReal) then 1 else 0)
      else if m.val < 128 then (if v = (((m.val - 64 : ℕ) : ℝ) : EReal) then 1 else 0)
      else if m.val = 128 then v else 0 := by
  unfold laneVal
  rw [lane_pos, eq_float, bit_float _ _ (lane_low m), bit_float _ _ (lane_last m)]
  have h := nat_float ⟨if m.val < 64 then m.val else m.val - 64, by split <;> omega⟩
  rw [h]
  by_cases h1 : m.val < 64
  · have h2 : m.val < 128 := by omega
    have h3 : ¬ m.val = 128 := by omega
    simp only [h1, h2, h3, if_true, if_false, mul_one, mul_zero, add_zero]
  · by_cases h2 : m.val < 128
    · have h3 : ¬ m.val = 128 := by omega
      simp only [h1, h2, h3, if_true, if_false, mul_one, mul_zero, add_zero]
    · by_cases h3 : m.val = 128 <;> simp [h1, h2, h3]

/-- A filter's lanes against the table: the column's row, the operator's row, and the value times the last row. -/
theorem lanes_sum (W : Fin 256 → EReal) (col : Fin 30) (op : Fin 10) (x : EReal) (v : Fin 256 → EReal)
    (h0 : ∀ k : Fin 256, k.val < 64 → v k = ((col.val : ℝ) : EReal))
    (h1 : ∀ k : Fin 256, 64 ≤ k.val → k.val < 128 → v k = ((op.val : ℝ) : EReal))
    (h2 : ∀ k : Fin 256, k.val = 128 → v k = x) :
    ∑ k : Fin 256, laneVal (BitVec.ofNat 32 k.val) (v k) * W k
      = W ⟨col.val, by omega⟩ + W ⟨64 + op.val, by omega⟩ + x * W ⟨128, by omega⟩ := by
  have h : ∀ k : Fin 256, laneVal (BitVec.ofNat 32 k.val) (v k) * W k
      = (if k = (⟨col.val, by omega⟩ : Fin 256) then W k else 0) + (if k = (⟨64 + op.val, by omega⟩ : Fin 256) then W k else 0)
        + (if k = (⟨128, by omega⟩ : Fin 256) then x * W k else 0) := fun k => by
    rw [laneVal_eq]
    simp only [Fin.ext_iff]
    by_cases k0 : k.val < 64
    · rw [if_pos k0, h0 k k0]
      simp only [nat_eq]
      split_ifs <;> first | omega | simp
    · by_cases k1 : k.val < 128
      · rw [if_neg k0, if_pos k1, h1 k (by omega) k1]
        simp only [nat_eq]
        split_ifs <;> first | omega | simp
      · rw [if_neg k0, if_neg k1]
        by_cases k2 : k.val = 128
        · rw [if_pos k2, h2 k k2]
          split_ifs <;> first | omega | simp
        · split_ifs <;> first | omega | simp
  simp only [h, Finset.sum_add_distrib, Finset.sum_ite_eq', Finset.mem_univ, if_true]

end Cert.Proof

end
-- ==== Proof.Row.lean ====
module

public import proofs.«01_k».proof.Proof.Lanes
public import Idealize.ShloMosaic.Lib.Pipeline.ValueKit

@[expose] public section

noncomputable section

namespace Cert.Proof

open Idealize.ShloMosaic Cert.KernelIdeal Cert.KernelIdeal.Gen

/-! # One row of the main pass

What the main pass writes at row `p` of its block is the row's output, when its tables hold what the first pass and the host
put into them. -/

/-- What the main pass's tables hold, in terms of the weights. -/
structure Tables (w : Weights) (x1 : Vec Ideal S64x64 .f32) (x2 : Vec Ideal S256x73 .f32) (x3 : Vec Ideal S16x768 .f32)
    (x4 : Vec Ideal S73x73 .f32) (x5 x6 : Vec Ideal S1x73 .f32) (x7 : Vec Ideal S256x192 .f32) (x8 : Vec Ideal S1x64 .f32)
    (x9 : Vec Ideal S1040x64 .f32) (x10 : Vec Ideal S1x64 .f32) (x11 : Vec Ideal S73x64 .f32) (x12 x13 : Vec Ideal S64x64 .f32)
    (x14 : Vec Ideal S1x64 .f32) : Prop where
  type : ∀ (a : Fin 20) (c : Fin 64), x1 (ix2 ⟨a.val, by omega⟩ c) = ∑ k : Fin 64, w.typeE a k * w.Wp ⟨k.val, by omega⟩ c
  join : ∀ (a : Fin 10) (c : Fin 64), x1 (ix2 ⟨20 + a.val, by omega⟩ c) = ∑ k : Fin 64, w.joinE a k * w.Wp ⟨137 + k.val, by omega⟩ c
  table : ∀ (a : Fin 20) (c : Fin 64), x1 (ix2 ⟨30 + a.val, by omega⟩ c) = ∑ k : Fin 64, w.tableE a k * w.Wp ⟨201 + k.val, by omega⟩ c
  col : ∀ (a : Fin 30) (l : Fin 73), x2 (ix2 ⟨a.val, by omega⟩ l) = ∑ k : Fin 64, w.colE a k * w.Wf ⟨k.val, by omega⟩ l
  op : ∀ (a : Fin 10) (l : Fin 73), x2 (ix2 ⟨64 + a.val, by omega⟩ l) = ∑ k : Fin 8, w.opE a k * w.Wf ⟨64 + k.val, by omega⟩ l
  val : ∀ l : Fin 73, x2 (ix2 ⟨128, by omega⟩ l) = w.Wf ⟨72, by omega⟩ l
  sel : ∀ (a : Fin 16) (c : Fin 768), x3 (ix2 a c)
    = if a.val = 2 + c.val / 256 + 3 * min (c.val % 256 / 64) 2 ∧ c.val % 256 ≤ 128 then 1 else 0
  wf2 : ∀ k l : Fin 73, x4 (ix2 k l) = w.Wf2 k l
  bf : ∀ l : Fin 73, x5 (ix2 0 l) = w.bf l
  bf2 : ∀ l : Fin 73, x6 (ix2 0 l) = w.bf2 l
  histIn : ∀ (r : Fin 150) (j : Fin 3) (c : Fin 64) (r' : Fin 256) (c' : Fin 192), r'.val = 14 + r.val → c'.val = 64 * j.val + c.val →
    x7 (ix2 r' c') = if r.val % 3 = j.val then w.Wh ⟨r.val / 3, by omega⟩ c else 0
  histOut : ∀ (r : Fin 256) (c : Fin 192), r.val < 14 ∨ 164 ≤ r.val → x7 (ix2 r c) = 0
  bh : ∀ c : Fin 64, x8 (ix2 0 c) = w.bh c
  smp : ∀ (q : Fin 1000) (c : Fin 64), x9 (ix2 ⟨37 + q.val, by omega⟩ c) = w.Ws q c
  smpOut : ∀ (q : Fin 1040) (c : Fin 64), q.val < 37 → x9 (ix2 q c) = 0
  bs : ∀ c : Fin 64, x10 (ix2 0 c) = w.bs c
  wpf : ∀ (k : Fin 73) (c : Fin 64), x11 (ix2 k c) = w.Wp ⟨64 + k.val, by omega⟩ c
  wpt : ∀ (k : Fin 64) (c : Fin 64), x12 (ix2 k c) = w.Wp ⟨201 + k.val, by omega⟩ c
  wph : ∀ (k : Fin 64) (c : Fin 64), x13 (ix2 k c) = w.Wp ⟨265 + k.val, by omega⟩ c
  bp : ∀ c : Fin 64, x14 (ix2 0 c) = w.bp c

/-- The product with the expanded histogram weights is the product with the weights themselves over one bin. -/
theorem hist_sum (x V : Fin 256 → EReal) (u : Fin 50 → EReal) (j : Fin 3)
    (hin : ∀ (r : Fin 150) (r' : Fin 256), r'.val = 14 + r.val → V r' = if r.val % 3 = j.val then u ⟨r.val / 3, by omega⟩ else 0)
    (hout : ∀ r : Fin 256, r.val < 14 ∨ 164 ≤ r.val → V r = 0) :
    ∑ k : Fin 256, x k * V k = ∑ q : Fin 50, x ⟨14 + 3 * q.val + j.val, by omega⟩ * u q := by
  symm
  refine Fintype.sum_of_injective (fun q : Fin 50 => (⟨14 + 3 * q.val + j.val, by omega⟩ : Fin 256)) ?_ _ _ ?_ ?_
  · intro a b h
    have := congrArg Fin.val h
    exact Fin.ext (by simp only at this; omega)
  · intro r hr
    by_cases h : r.val < 14 ∨ 164 ≤ r.val
    · rw [hout r h, mul_zero]
    · rw [hin ⟨r.val - 14, by omega⟩ r (by show r.val = 14 + (r.val - 14); omega), if_neg, mul_zero]
      intro hj
      refine hr ⟨⟨(r.val - 14) / 3, by omega⟩, Fin.ext ?_⟩
      show 14 + 3 * ((r.val - 14) / 3) + j.val = r.val
      replace hj : (r.val - 14) % 3 = j.val := hj
      omega
  · intro q
    rw [hin ⟨3 * q.val + j.val, by omega⟩ _ (by show 14 + 3 * q.val + j.val = 14 + (3 * q.val + j.val); omega),
      if_pos (by show (3 * q.val + j.val) % 3 = j.val; omega)]
    exact congrArg (fun i => _ * u i) (Fin.ext (by show q.val = (3 * q.val + j.val) / 3; omega))

/-- The product with the shifted sample weights is the product with the weights themselves. -/
theorem smp_sum (x : Fin 1037 → EReal) (V : Fin 1040 → EReal) (u : Fin 1000 → EReal)
    (hin : ∀ q : Fin 1000, V ⟨37 + q.val, by omega⟩ = u q) (hout : ∀ q : Fin 1040, q.val < 37 → V q = 0) :
    ∑ k : Fin 1037, x k * V ⟨k.val, by omega⟩ = ∑ q : Fin 1000, x ⟨37 + q.val, by omega⟩ * u q := by
  symm
  refine Fintype.sum_of_injective (fun q : Fin 1000 => (⟨37 + q.val, by omega⟩ : Fin 1037)) ?_ _ _ ?_ ?_
  · intro a b h
    have := congrArg Fin.val h
    exact Fin.ext (by simp only at this; omega)
  · intro r hr
    rw [hout _ ?_, mul_zero]
    by_contra h
    exact hr ⟨⟨r.val - 37, by have h2 : ¬ r.val < 37 := h; omega⟩,
      Fin.ext (by have h2 : ¬ r.val < 37 := h; show 37 + (r.val - 37) = r.val; omega)⟩
  · intro q
    rw [← hin q]

/-- A one-hot column picks its entry. -/
theorem pick_sum (x : Fin 16 → EReal) (A : ℕ) (p : Prop) [Decidable p] (hp : p) (hA : A < 16) :
    ∑ a : Fin 16, x a * (if a.val = A ∧ p then (1 : EReal) else 0) = x ⟨A, hA⟩ := by
  rw [Finset.sum_eq_single (⟨A, hA⟩ : Fin 16)]
  · rw [if_pos ⟨rfl, hp⟩, mul_one]
  · intro a _ ha
    rw [if_neg (fun h => ha (Fin.ext h.1)), mul_zero]
  · intro h; exact absurd (Finset.mem_univ _) h

/-- The offsets of a whole array are zero. -/
theorem offz : (![0, 0] : Fin 2 → ℕ) = fun _ => 0 := by funext a; fin_cases a <;> rfl

/-- A load of a block's leading or inner columns, read at an index. -/
theorem ld_cols {n : ℕ} (x : Vec Ideal S1024x1165 .f32) (o : ℕ) (inb) (p : Fin 1024) (k : Fin n) (k' : Fin 1165) (hk : k'.val = o + k.val) :
    View.ld x (Rect.unit (s := S1024x1165) ![0, o] (⟨2, ![1024, n]⟩ : Shape).size inb) (ix2 p k) = x (ix2 p k') := by
  refine View.ld_unit_apply_of _ _ _ _ _ _ fun a => ?_
  match a with
  | ⟨0, _⟩ => exact (Nat.zero_add _).symm
  | ⟨1, _⟩ => exact hk

variable {w : Weights} {x1 : Vec Ideal S64x64 .f32} {x2 : Vec Ideal S256x73 .f32} {x3 : Vec Ideal S16x768 .f32}
    {x4 : Vec Ideal S73x73 .f32} {x5 x6 : Vec Ideal S1x73 .f32} {x7 : Vec Ideal S256x192 .f32} {x8 : Vec Ideal S1x64 .f32}
    {x9 : Vec Ideal S1040x64 .f32} {x10 : Vec Ideal S1x64 .f32} {x11 : Vec Ideal S73x64 .f32} {x12 x13 : Vec Ideal S64x64 .f32}
    {x14 : Vec Ideal S1x64 .f32}

/-- The first filter layer before its bias, on stacked filter `j`. -/
theorem filters (T : Tables w x1 x2 x3 x4 x5 x6 x7 x8 x9 x10 x11 x12 x13 x14) (f : Fin 1165 → EReal) (d : Ids) (hd : Holds f d)
    (v0 : Vec Ideal S1024x16 .f32) (p : Fin 1024) (hv : ∀ k : Fin 16, v0 (ix2 p k) = f ⟨k.val, by omega⟩)
    (j : Fin 3) (r : Fin 3072) (hr : r.val = 1024 * j.val + p.val) (l : Fin 73) :
    k1_pay12 (F := Ideal) (k1_pay3 v0 x3) (Scalar.select (Scalar.cmpi .eq 256#32 0#32) 1#32 256#32) k1_pay4 k1_pay5 k1_pay6 x2 (ix2 r l)
      = ∑ k : Fin 64, w.colE (d.col j) k * w.Wf ⟨k.val, by omega⟩ l
        + ∑ k : Fin 8, w.opE (d.op j) k * w.Wf ⟨64 + k.val, by omega⟩ l
        + f ⟨8 + j.val, by omega⟩ * w.Wf ⟨72, by omega⟩ l := by
  rw [pay12_apply _ _ _ _ _ _ _ _ j p hr, ← T.col, ← T.op, ← T.val]
  have hsel : ∀ (k : Fin 256) (A : Fin 16), k.val ≤ 128 → A.val = 2 + j.val + 3 * min (k.val / 64) 2 →
      k1_pay3 (F := Ideal) v0 x3 (ix2 p ⟨256 * j.val + k.val, by omega⟩) = f ⟨A.val, by omega⟩ := by
    intro k A hk hA
    rw [pay3_apply, ← hv A]
    simp only [T.sel]
    have h1 : (256 * j.val + k.val) / 256 = j.val := by omega
    have h2 : (256 * j.val + k.val) % 256 = k.val := by omega
    rw [h1, h2, ← hA]
    exact pick_sum (fun a => v0 (ix2 p a)) A.val _ hk A.isLt
  have hw : ∀ k : Fin 256, laneWord (Scalar.select (Scalar.cmpi .eq 256#32 0#32) 1#32 256#32) (k1_pay4 (ix2 0 ⟨256 * j.val + k.val, by omega⟩))
      (k1_pay5 (ix2 0 ⟨256 * j.val + k.val, by omega⟩)) (k1_pay6 (ix2 0 ⟨256 * j.val + k.val, by omega⟩)) = BitVec.ofNat 32 k.val := fun k => by
    rw [lane_word]
    exact congrArg _ (by show (256 * j.val + k.val) % 256 = k.val; omega)
  simp only [hw]
  refine lanes_sum (fun k => x2 (ix2 k l)) (d.col j) (d.op j) _ _ ?_ ?_ ?_
  · intro k hk
    rw [hsel k ⟨2 + j.val, by omega⟩ (by omega) (by show 2 + j.val = 2 + j.val + 3 * min (k.val / 64) 2; omega)]
    exact hd.col j
  · intro k hk hk'
    rw [hsel k ⟨5 + j.val, by omega⟩ (by omega) (by show 5 + j.val = 2 + j.val + 3 * min (k.val / 64) 2; omega)]
    exact hd.op j
  · intro k hk
    rw [hsel k ⟨8 + j.val, by omega⟩ (by omega) (by show 8 + j.val = 2 + j.val + 3 * min (k.val / 64) 2; omega)]

/-- What the main pass writes at row `p`, column `c` of its block. -/
theorem row_out (T : Tables w x1 x2 x3 x4 x5 x6 x7 x8 x9 x10 x11 x12 x13 x14) (x0 : Vec Ideal S1024x1165 .f32) (p : Fin 1024)
    (d : Ids) (hd : Holds (fun k => x0 (ix2 p k)) d) (ht : ∀ a k, ∃ r : ℝ, w.tableE a k = r)
    (hw : ∀ (k : Fin 64) (c : Fin 64), ∃ r : ℝ, w.Wp ⟨201 + k.val, by omega⟩ c = r) (c : Fin 64) :
    out1_15 (F := Ideal) x0 x1 x2 x3 x4 x5 x6 x7 x8 x9 x10 x11 x12 x13 x14 (ix2 p c)
      = rowOut w d (fun k => x0 (ix2 p k)) c := by
  have hl1 : View.ld x1 r1_2 = x1 := View.ld_unit_zero offz _ _
  have hl2 : View.ld x2 r1_6 = x2 := View.ld_unit_zero offz _ _
  have hl3 : View.ld x3 r1_3 = x3 := View.ld_unit_zero offz _ _
  have hl4 : View.ld x4 r1_4 = x4 := View.ld_unit_zero offz _ _
  have hl5 : View.ld x5 r1_5 = x5 := View.ld_unit_zero offz _ _
  have hl6 : View.ld x6 r1_5 = x6 := View.ld_unit_zero offz _ _
  have hl7 : View.ld x7 r1_8 = x7 := View.ld_unit_zero offz _ _
  have hl8 : View.ld x8 r1_9 = x8 := View.ld_unit_zero offz _ _
  have hl9 : View.ld x9 r1_11 = x9 := View.ld_unit_zero offz _ _
  have hl10 : View.ld x10 r1_9 = x10 := View.ld_unit_zero offz _ _
  have hl11 : View.ld x11 r1_12 = x11 := View.ld_unit_zero offz _ _
  have hl12 : View.ld x12 r1_2 = x12 := View.ld_unit_zero offz _ _
  have hl13 : View.ld x13 r1_2 = x13 := View.ld_unit_zero offz _ _
  have hl14 : View.ld x14 r1_9 = x14 := View.ld_unit_zero offz _ _
  unfold_out out1_15
  rw [View.canon_unit_zero offz, hl1, hl2, hl3, hl4, hl5, hl6, hl7, hl8, hl9, hl10, hl11, hl12, hl13, hl14]
  have hv : ∀ k : Fin 16, View.ld x0 r1_0 (ix2 p k) = x0 (ix2 p ⟨k.val, by omega⟩) := fun k => ld_cols x0 0 _ p k _ (by simp)
  have hv1 : View.ld x0 r1_1 (ix2 p 0) = x0 (ix2 p ⟨164, by omega⟩) := ld_cols x0 164 _ p 0 _ rfl
  have hv7 : ∀ k : Fin 256, View.ld x0 r1_7 (ix2 p k) = x0 (ix2 p ⟨k.val, by omega⟩) := fun k => ld_cols x0 0 _ p k _ (by simp)
  have hv10 : ∀ k : Fin 1037, View.ld x0 r1_10 (ix2 p k) = x0 (ix2 p ⟨128 + k.val, by omega⟩) := fun k => ld_cols x0 128 _ p k _ rfl
  generalize View.ld x0 r1_0 = v0 at hv ⊢
  generalize View.ld x0 r1_1 = v1 at hv1 ⊢
  generalize View.ld x0 r1_7 = v7 at hv7 ⊢
  generalize View.ld x0 r1_10 = v10 at hv10 ⊢
  have hm0 : k1_pay7 v0 (ix2 p 0) = x0 (ix2 p ⟨11, by omega⟩) := by rw [← hv ⟨11, by omega⟩]; pointwise [k1_pay7]
  have hm1 : k1_pay8 v0 (ix2 p 0) = x0 (ix2 p ⟨12, by omega⟩) := by rw [← hv ⟨12, by omega⟩]; pointwise [k1_pay8]
  have hm2 : k1_pay9 v0 (ix2 p 0) = x0 (ix2 p ⟨13, by omega⟩) := by rw [← hv ⟨13, by omega⟩]; pointwise [k1_pay9]
  have hb5 : k1_pay10 x5 = x5 := by funext i; pointwise [k1_pay10]
  have hb6 : k1_pay11 x6 = x6 := by funext i; pointwise [k1_pay11]
  rw [hb5, hb6]
  have hfilt : ∀ (j : Fin 3) (r : Fin 3072) (hr : r.val = 1024 * j.val + p.val) (l : Fin 73),
      leaky (∑ k : Fin 73, leaky (k1_pay12 (F := Ideal) (k1_pay3 v0 x3) (Scalar.select (Scalar.cmpi .eq 256#32 0#32) 1#32 256#32)
        k1_pay4 k1_pay5 k1_pay6 x2 (ix2 r k) + x5 (ix2 0 k)) * x4 (ix2 k l) + x6 (ix2 0 l))
      = filt2 w d (fun k => x0 (ix2 p k)) j l := fun j r hr l => by
    simp only [filters T _ d hd v0 p hv j r hr, T.wf2, T.bf, T.bf2]
    rfl
  refine (pay1_apply _ _ _ _ _ _ _ _ _ _ _ p c _ rfl).trans ?_
  refine rowOut_eq w d _ c ht hw (fun j => x0 (ix2 p ⟨11 + j.val, by omega⟩)) hd.on (k1_pay2 v0 v1 x1 (ix2 p c)) ?_
    (fun k => k1_pay13 (k1_pay7 v0) (k1_pay8 v0) (k1_pay9 v0) x4 x5 x6
      (k1_pay12 (k1_pay3 v0 x3) (Scalar.select (Scalar.cmpi .eq 256#32 0#32) 1#32 256#32) k1_pay4 k1_pay5 k1_pay6 x2) (ix2 p k)) ?_
    (fun j k => ∑ q : Fin 256, v7 (ix2 p q) * x7 (ix2 q ⟨64 * j.val + k.val, by omega⟩)) ?_
    (fun k => ∑ q : Fin 1037, v10 (ix2 p q) * x9 (ix2 ⟨q.val, by omega⟩ k)) ?_ _ ?_
  · rw [pay2_apply v0 v1 x1 p c d.ty d.jn d.tb ((hv 0).trans hd.ty) ((hv 1).trans hd.jn) (hv1.trans hd.tb), T.type, T.join, T.table]
  · intro l
    show k1_pay13 (F := Ideal) _ _ _ _ _ _ _ _ = _
    rw [pay13_apply, hm0, hm1, hm2, hfilt 0 _ (by show p.val = 1024 * 0 + p.val; omega), hfilt 1 _ rfl, hfilt 2 _ rfl]
    rfl
  · intro j k
    refine (hist_sum (fun q => v7 (ix2 p q)) (fun q => x7 (ix2 q ⟨64 * j.val + k.val, by omega⟩)) (fun q => w.Wh q k) j
      (fun r r' hr => T.histIn r j k r' _ hr rfl) (fun r hr => T.histOut r _ hr)).trans ?_
    exact Finset.sum_congr rfl fun q _ => congrArg (· * w.Wh q k) (hv7 _)
  · intro k
    refine (smp_sum (fun q => v10 (ix2 p q)) (fun q => x9 (ix2 q k)) (fun q => w.Ws q k)
      (fun q => T.smp q k) (fun q hq => T.smpOut q k hq)).trans ?_
    refine Finset.sum_congr rfl fun q _ => congrArg (· * w.Ws q k) ((hv10 _).trans ?_)
    exact congrArg (fun i => x0 (ix2 p i)) (Fin.ext (by show 128 + (37 + q.val) = 165 + q.val; omega))
  · have h16 : ∀ k : Fin 64, k1_pay16 (F := Ideal) (k1_pay7 v0) (k1_pay8 v0) (k1_pay9 v0) v7 x7 x8 (ix2 p k) = _ :=
      fun k => pay16_apply _ _ _ v7 x7 x8 p k
    simp only [h16, pay15_apply, hm0, hm1, hm2, T.wpf, T.bs, T.wpt, T.bh, T.wph, T.bp]
    have hi : ∀ k : Fin 64, (⟨k.val, by omega⟩ : Fin 192) = ⟨64 * (0 : Fin 3).val + k.val, by simp; omega⟩ := fun k =>
      Fin.ext (by show k.val = 64 * 0 + k.val; omega)
    simp only [hi]
    rfl

end Cert.Proof

end
-- ==== Proof.Arrays.lean ====
module

public import proofs.«01_k».proof.Proof.Tables
public import proofs.«01_k».proof.Proof.Row
public import Idealize.ShloMosaic.Lib.Pipeline.ValueKit
public import proofs.«01_k».proof.Proof.Gen.KernelIdeal.Frame

@[expose] public section

noncomputable section

namespace Cert.Proof

open Idealize.ShloMosaic Cert.KernelIdeal Cert.KernelIdeal.Gen

/-- A block at index zero on every axis keeps its coordinates when it is placed in the array. -/
theorem emb_whole {G : Pipeline.Grid} (w : Pipeline.Window sig G) (t : Fin G.N) (hi : ∀ a, w.index t a = 0)
    (y : (w.xblock (G.coords t)).Idx) :
    (w.blk t).view.emb y = w.arr.view.emb (fun a => ⟨(y a).val, by
      have h := Pipeline.Window.rect_emb_val_of_index_zero w t a (hi a) y
      exact h ▸ ((w.rect t).emb y a).isLt⟩) := by
  show w.arr.view.emb ((w.rect t).emb y) = _
  congr 1
  funext a
  exact Fin.ext (Pipeline.Window.rect_emb_val_of_index_zero w t a (hi a) y)

/-- Every window of the table-building region is at index zero. -/
theorem zero0 : ∀ (w : Fin cfg0.W) (t : Fin cfg0.N) a, (cfg0.win w).index t a = 0 := by decide +kernel

/-- Every window of the main region except the features and the result is at index zero. -/
theorem zero1 : ∀ w : Fin cfg1.W, 0 < w.val → w.val < 15 → ∀ (t : Fin cfg1.N) a, (cfg1.win w).index t a = 0 := by
  decide +kernel

variable (V : (c : Dev nD) → (b : Ref sig .tc) → Buf (Elt Ideal) ((c.tc : Thread nD τ).loc b)) (c : Dev nD)

/-- The eight inputs of the table-building region are read whole. -/
theorem prep_in (t : Fin cfg0.N) : iblk0 V c 0 t = V c main_arg1 ∧ iblk0 V c 1 t = V c main_arg2
    ∧ iblk0 V c 2 t = V c main_arg3 ∧ iblk0 V c 3 t = V c main_arg4 ∧ iblk0 V c 4 t = V c main_arg5
    ∧ iblk0 V c 5 t = V c main_arg6 ∧ iblk0 V c 6 t = V c main_arg12 ∧ iblk0 V c 7 t = V c main_arg14 :=
  ⟨funext fun y => congrArg (V c main_arg1) (emb_whole (cfg0.win 0) t (zero0 0 t) y),
   funext fun y => congrArg (V c main_arg2) (emb_whole (cfg0.win 1) t (zero0 1 t) y),
   funext fun y => congrArg (V c main_arg3) (emb_whole (cfg0.win 2) t (zero0 2 t) y),
   funext fun y => congrArg (V c main_arg4) (emb_whole (cfg0.win 3) t (zero0 3 t) y),
   funext fun y => congrArg (V c main_arg5) (emb_whole (cfg0.win 4) t (zero0 4 t) y),
   funext fun y => congrArg (V c main_arg6) (emb_whole (cfg0.win 5) t (zero0 5 t) y),
   funext fun y => congrArg (V c main_arg12) (emb_whole (cfg0.win 6) t (zero0 6 t) y),
   funext fun y => congrArg (V c main_arg14) (emb_whole (cfg0.win 7) t (zero0 7 t) y)⟩

/-- The array of small tables after the table-building region. -/
theorem prep_small : (dat0 V c).arrAt 8 cfg0.N = out0_8 (F := Ideal) (V c main_arg1) (V c main_arg2) (V c main_arg3)
    (V c main_arg4) (V c main_arg5) (V c main_arg6) (V c main_arg12) (V c main_arg14) := by
  have h : ∀ t, (dat0 V c).after 8 t = _ := after0_8 V c
  simp only [prep_in] at h
  generalize out0_8 (F := Ideal) (V c main_arg1) _ _ _ _ _ _ _ = o at h ⊢
  refine (dat0 V c).arrAt_eq_of_covers 8 _ (by decide +kernel) fun t hf y => ?_
  rw [emb_whole (cfg0.win 8) t (zero0 8 t) y, h t]
  rfl

/-- The array of filter tables after the table-building region. -/
theorem prep_filter : (dat0 V c).arrAt 9 cfg0.N = out0_9 (F := Ideal) (V c main_arg1) (V c main_arg2) (V c main_arg3)
    (V c main_arg4) (V c main_arg5) (V c main_arg6) (V c main_arg12) (V c main_arg14) := by
  have h : ∀ t, (dat0 V c).after 9 t = _ := after0_9 V c
  simp only [prep_in] at h
  generalize out0_9 (F := Ideal) (V c main_arg1) _ _ _ _ _ _ _ = o at h ⊢
  refine (dat0 V c).arrAt_eq_of_covers 9 _ (by decide +kernel) fun t hf y => ?_
  rw [emb_whole (cfg0.win 9) t (zero0 9 t) y, h t]
  rfl

/-- The spreading matrix after the table-building region. -/
theorem prep_spread : (dat0 V c).arrAt 10 cfg0.N = out0_10 (F := Ideal) (V c main_arg1) (V c main_arg2) (V c main_arg3)
    (V c main_arg4) (V c main_arg5) (V c main_arg6) (V c main_arg12) (V c main_arg14) := by
  have h : ∀ t, (dat0 V c).after 10 t = _ := after0_10 V c
  simp only [prep_in] at h
  generalize out0_10 (F := Ideal) (V c main_arg1) _ _ _ _ _ _ _ = o at h ⊢
  refine (dat0 V c).arrAt_eq_of_covers 10 _ (by decide +kernel) fun t hf y => ?_
  rw [emb_whole (cfg0.win 10) t (zero0 10 t) y, h t]
  rfl

/-- The expanded histogram weights after the table-building region. -/
theorem prep_hist : (dat0 V c).arrAt 11 cfg0.N = out0_11 (F := Ideal) (V c main_arg1) (V c main_arg2) (V c main_arg3)
    (V c main_arg4) (V c main_arg5) (V c main_arg6) (V c main_arg12) (V c main_arg14) := by
  have h : ∀ t, (dat0 V c).after 11 t = _ := after0_11 V c
  simp only [prep_in] at h
  generalize out0_11 (F := Ideal) (V c main_arg1) _ _ _ _ _ _ _ = o at h ⊢
  refine (dat0 V c).arrAt_eq_of_covers 11 _ (by decide +kernel) fun t hf y => ?_
  rw [emb_whole (cfg0.win 11) t (zero0 11 t) y, h t]
  rfl

/-- The blocks of the main region that hold a whole array. -/
theorem block_in (t : Fin cfg1.N) : iblk1 V c 1 t = V c main_v0_0 ∧ iblk1 V c 2 t = V c main_v0_1
    ∧ iblk1 V c 3 t = V c main_v0_2 ∧ iblk1 V c 4 t = V c main_arg8 ∧ iblk1 V c 5 t = V c main_v4
    ∧ iblk1 V c 6 t = V c main_v5 ∧ iblk1 V c 7 t = V c main_v0_3 ∧ iblk1 V c 8 t = V c main_v6
    ∧ iblk1 V c 9 t = V c main_v3 ∧ iblk1 V c 10 t = V c main_v7 ∧ iblk1 V c 11 t = V c main_v8
    ∧ iblk1 V c 12 t = V c main_v9 ∧ iblk1 V c 13 t = V c main_v10 ∧ iblk1 V c 14 t = V c main_v11 :=
  ⟨funext fun y => congrArg (V c main_v0_0) (emb_whole (cfg1.win 1) t (zero1 1 (by decide) (by decide) t) y),
   funext fun y => congrArg (V c main_v0_1) (emb_whole (cfg1.win 2) t (zero1 2 (by decide) (by decide) t) y),
   funext fun y => congrArg (V c main_v0_2) (emb_whole (cfg1.win 3) t (zero1 3 (by decide) (by decide) t) y),
   funext fun y => congrArg (V c main_arg8) (emb_whole (cfg1.win 4) t (zero1 4 (by decide) (by decide) t) y),
   funext fun y => congrArg (V c main_v4) (emb_whole (cfg1.win 5) t (zero1 5 (by decide) (by decide) t) y),
   funext fun y => congrArg (V c main_v5) (emb_whole (cfg1.win 6) t (zero1 6 (by decide) (by decide) t) y),
   funext fun y => congrArg (V c main_v0_3) (emb_whole (cfg1.win 7) t (zero1 7 (by decide) (by decide) t) y),
   funext fun y => congrArg (V c main_v6) (emb_whole (cfg1.win 8) t (zero1 8 (by decide) (by decide) t) y),
   funext fun y => congrArg (V c main_v3) (emb_whole (cfg1.win 9) t (zero1 9 (by decide) (by decide) t) y),
   funext fun y => congrArg (V c main_v7) (emb_whole (cfg1.win 10) t (zero1 10 (by decide) (by decide) t) y),
   funext fun y => congrArg (V c main_v8) (emb_whole (cfg1.win 11) t (zero1 11 (by decide) (by decide) t) y),
   funext fun y => congrArg (V c main_v9) (emb_whole (cfg1.win 12) t (zero1 12 (by decide) (by decide) t) y),
   funext fun y => congrArg (V c main_v10) (emb_whole (cfg1.win 13) t (zero1 13 (by decide) (by decide) t) y),
   funext fun y => congrArg (V c main_v11) (emb_whole (cfg1.win 14) t (zero1 14 (by decide) (by decide) t) y)⟩

/-- A block of features at point `t` is rows `1024 t` and following of the feature array. -/
theorem block_rows (t : Fin cfg1.N) (p : Fin 1024) (k : Fin 1165) :
    iblk1 V c 0 t (ix2 p k) = V c main_arg0 (ix2 ⟨1024 * t.val + p.val, by have := t.isLt; have : cfg1.N = 16 := rfl; omega⟩ k) := by
  have e : ∀ t : Fin cfg1.N, win1_0.index t = ![t.val, 0] := by decide +kernel
  blk_simp [iblk1]
  refine congrArg (V c main_arg0) (funext fun a => Fin.ext ?_)
  blk_simp [e]
  fin_cases a <;> simp <;> omega

/-- The result array: every row is what the main region computes of its own row of features. -/
theorem block_out (G : S16384x64.Idx → EReal)
    (hG : ∀ (t : Fin cfg1.N) (p : Fin 1024) (l : Fin 64), (dat1 V c).after 15 t (ix2 p l)
      = G (ix2 ⟨1024 * t.val + p.val, by have := t.isLt; have : cfg1.N = 16 := rfl; omega⟩ l)) :
    (dat1 V c).arrAt 15 cfg1.N = G := by
  have e : ∀ t : Fin cfg1.N, win1_15.index t = ![t.val, 0] := by decide +kernel
  refine (dat1 V c).arrAt_eq_of_covers 15 _ (by decide +kernel) fun t hf y => ?_
  have h := hG t (y 0) (y 1)
  blk_simp
  refine Eq.trans ?_ (h.trans ?_)
  · exact congrArg _ (ix2_eta y).symm
  · refine congrArg G (funext fun a => Fin.ext ?_)
    blk_simp [e]
    fin_cases a <;> simp <;> omega

end Cert.Proof
end
-- ==== Proof.Host.lean ====
module

public import proofs.«01_k».proof.Proof.Arrays
public import Idealize.ShloMosaic.Lib.ValueLayout
public import Idealize.ShloMosaic.Lib.Pointwise

@[expose] public section

noncomputable section

namespace Cert.Proof

open Idealize.ShloMosaic Idealize.ShloMosaic.StableHlo Cert.KernelIdeal Cert.KernelIdeal.Gen

variable (U : Valuation τ sig (Elt Ideal))

/-- The first filter bias as a one-row array. -/
theorem host_bf (l : Fin 73) : after hostOps1 U (Proc.devRef .tc main_v4) (ix2 0 l) = U (Proc.devRef .tc main_arg7) (ix1 l) := by
  unfold hostOps1
  after_results
  exact ValueIdx.shapeCast_a_1a_apply _ _ 0 l

/-- The second filter bias as a one-row array. -/
theorem host_bf2 (l : Fin 73) : after hostOps1 U (Proc.devRef .tc main_v5) (ix2 0 l) = U (Proc.devRef .tc main_arg9) (ix1 l) := by
  unfold hostOps1
  after_results
  exact ValueIdx.shapeCast_a_1a_apply _ _ 0 l

/-- The histogram bias as a one-row array. -/
theorem host_bh (l : Fin 64) : after hostOps1 U (Proc.devRef .tc main_v6) (ix2 0 l) = U (Proc.devRef .tc main_arg13) (ix1 l) := by
  unfold hostOps1
  after_results
  exact ValueIdx.shapeCast_a_1a_apply _ _ 0 l

/-- The sample bias as a one-row array. -/
theorem host_bs (l : Fin 64) : after hostOps1 U (Proc.devRef .tc main_v7) (ix2 0 l) = U (Proc.devRef .tc main_arg11) (ix1 l) := by
  unfold hostOps1
  after_results
  exact ValueIdx.shapeCast_a_1a_apply _ _ 0 l

/-- The output bias as a one-row array. -/
theorem host_bp (l : Fin 64) : after hostOps1 U (Proc.devRef .tc main_v11) (ix2 0 l) = U (Proc.devRef .tc main_arg15) (ix1 l) := by
  unfold hostOps1
  after_results
  exact ValueIdx.shapeCast_a_1a_apply _ _ 0 l

/-- The rows of the output weights that meet the filters. -/
theorem host_wpf (k : Fin 73) (c : Fin 64) : after hostOps1 U (Proc.devRef .tc main_v8) (ix2 k c)
    = U (Proc.devRef .tc main_arg14) (ix2 ⟨64 + k.val, by omega⟩ c) := by
  unfold hostOps1
  after_results
  pointwise

/-- The rows of the output weights that meet the tables and samples. -/
theorem host_wpt (k : Fin 64) (c : Fin 64) : after hostOps1 U (Proc.devRef .tc main_v9) (ix2 k c)
    = U (Proc.devRef .tc main_arg14) (ix2 ⟨201 + k.val, by omega⟩ c) := by
  unfold hostOps1
  after_results
  pointwise

/-- The rows of the output weights that meet the histograms. -/
theorem host_wph (k : Fin 64) (c : Fin 64) : after hostOps1 U (Proc.devRef .tc main_v10) (ix2 k c)
    = U (Proc.devRef .tc main_arg14) (ix2 ⟨265 + k.val, by omega⟩ c) := by
  unfold hostOps1
  after_results
  pointwise

/-- The sample weights with rows of zeros above and below. -/
theorem host_ws : after hostOps1 U (Proc.devRef .tc main_v3) = concatenate S1040x64 0
    [⟨S37x64, broadcastInDim S37x64 ![] bcast_S_S37x64 (constant (F := Ideal) S_ .f32 0x00000000#32)⟩,
     ⟨S1000x64, (U (Proc.devRef .tc main_arg10) : Vec Ideal S1000x64 .f32)⟩,
     ⟨S3x64, broadcastInDim S3x64 ![] bcast_S_S3x64 (constant (F := Ideal) S_ .f32 0x00000000#32)⟩]
    concatenates_S37x64_S1000x64_S3x64_S1040x64_d0 := by
  unfold hostOps1
  after_results
  dsimp only [Matrix.cons_val]
  rfl

/-- Below the zeros above them the rows are the sample weights. -/
theorem host_smp (q : Fin 1000) (c : Fin 64) : after hostOps1 U (Proc.devRef .tc main_v3) (ix2 ⟨37 + q.val, by omega⟩ c)
    = U (Proc.devRef .tc main_arg10) (ix2 q c) := by
  rw [host_ws]
  pointwise

/-- The first rows are zero. -/
theorem host_pad (q : Fin 1040) (c : Fin 64) (h : q.val < 37) : after hostOps1 U (Proc.devRef .tc main_v3) (ix2 q c) = (0 : EReal) := by
  rw [host_ws]
  pointwise
  rw [dif_pos h]

end Cert.Proof
end
-- ==== Proof.Result.lean ====
module

public import proofs.«01_k».proof.Proof.Host

@[expose] public section

noncomputable section

namespace Cert.Proof

open Idealize.ShloMosaic Cert.KernelIdeal Cert.KernelIdeal.Gen

/-- The weights read out of the fifteen weight arrays. -/
def weights (x1 x2 : Vec Ideal S20x64 .f32) (x3 : Vec Ideal S30x64 .f32) (x4 : Vec Ideal S10x8 .f32)
    (x5 : Vec Ideal S10x64 .f32) (x6 : Vec Ideal S73x73 .f32) (x7 : Vec Ideal S73 .f32) (x8 : Vec Ideal S73x73 .f32)
    (x9 : Vec Ideal S73 .f32) (x10 : Vec Ideal S1000x64 .f32) (x11 : Vec Ideal S64 .f32) (x12 : Vec Ideal S50x64 .f32)
    (x13 : Vec Ideal S64 .f32) (x14 : Vec Ideal S329x64 .f32) (x15 : Vec Ideal S64 .f32) : Weights where
  typeE a k := x1 (ix2 a k)
  tableE a k := x2 (ix2 a k)
  colE a k := x3 (ix2 a k)
  opE a k := x4 (ix2 a k)
  joinE a k := x5 (ix2 a k)
  Wf a k := x6 (ix2 a k)
  bf a := x7 (ix1 a)
  Wf2 a k := x8 (ix2 a k)
  bf2 a := x9 (ix1 a)
  Ws a k := x10 (ix2 a k)
  bs a := x11 (ix1 a)
  Wh a k := x12 (ix2 a k)
  bh a := x13 (ix1 a)
  Wp a k := x14 (ix2 a k)
  bp a := x15 (ix1 a)

variable (m : (ℓ : Loc nD τ sig) → Buf (Elt Ideal) ℓ) (ρ : Dev nD → PrngReg) (c : Dev nD)

/-- The kernel's weights on one device at launch. -/
def kw : Weights := weights (m (c.tc.loc main_arg1)) (m (c.tc.loc main_arg2)) (m (c.tc.loc main_arg3))
  (m (c.tc.loc main_arg4)) (m (c.tc.loc main_arg5)) (m (c.tc.loc main_arg6)) (m (c.tc.loc main_arg7))
  (m (c.tc.loc main_arg8)) (m (c.tc.loc main_arg9)) (m (c.tc.loc main_arg10)) (m (c.tc.loc main_arg11))
  (m (c.tc.loc main_arg12)) (m (c.tc.loc main_arg13)) (m (c.tc.loc main_arg14)) (m (c.tc.loc main_arg15))

/-- An array of the table-building region when the main region starts. -/
theorem built (w : Fin cfg0.W) (h : Pipeline.arrRef spec0 w ∉ hostOps1_W) :
    V2 m ρ c (Pipeline.arrRef spec0 w) = (dat0 (V0 m ρ) c).arrAt w cfg0.N :=
  (W2_of m ρ c _ h).trans (W1_arr m ρ c w)

/-- An argument as the host operations find it. -/
theorem given (a : Ref sig .tc) (h : a ∈ argRefs) : W1 m ρ c (Proc.devRef .tc a) = m (c.tc.loc a) :=
  W1_args m ρ c a h

/-- When the main region starts, its tables and weights hold what `Tables` asks for. -/
theorem tables : Tables (kw m c) (V2 m ρ c main_v0_0) (V2 m ρ c main_v0_1) (V2 m ρ c main_v0_2) (V2 m ρ c main_arg8)
    (V2 m ρ c main_v4) (V2 m ρ c main_v5) (V2 m ρ c main_v0_3) (V2 m ρ c main_v6) (V2 m ρ c main_v3)
    (V2 m ρ c main_v7) (V2 m ρ c main_v8) (V2 m ρ c main_v9) (V2 m ρ c main_v10) (V2 m ρ c main_v11) where
  type a l := by
    rw [show V2 m ρ c main_v0_0 = _ from (built m ρ c 8 (by decide)).trans (prep_small _ c)]
    exact t64_type _ _ _ _ _ _ _ _ a l
  join a l := by
    rw [show V2 m ρ c main_v0_0 = _ from (built m ρ c 8 (by decide)).trans (prep_small _ c)]
    exact t64_join _ _ _ _ _ _ _ _ a l
  table a l := by
    rw [show V2 m ρ c main_v0_0 = _ from (built m ρ c 8 (by decide)).trans (prep_small _ c)]
    exact t64_table _ _ _ _ _ _ _ _ a l
  col a l := by
    rw [show V2 m ρ c main_v0_1 = _ from (built m ρ c 9 (by decide)).trans (prep_filter _ c)]
    exact w256_col _ _ _ _ _ _ _ _ a l
  op a l := by
    rw [show V2 m ρ c main_v0_1 = _ from (built m ρ c 9 (by decide)).trans (prep_filter _ c)]
    exact w256_op _ _ _ _ _ _ _ _ a l
  val l := by
    rw [show V2 m ρ c main_v0_1 = _ from (built m ρ c 9 (by decide)).trans (prep_filter _ c)]
    exact w256_val _ _ _ _ _ _ _ _ l
  sel a l := by
    rw [show V2 m ρ c main_v0_2 = _ from (built m ρ c 10 (by decide)).trans (prep_spread _ c)]
    exact e_apply _ _ _ _ _ _ _ _ a l
  wf2 k l := congrFun (W2_args m ρ c main_arg8 (by decide)) _
  bf l := (host_bf (W1 m ρ c) l).trans (congrFun (given m ρ c main_arg7 (by decide)) _)
  bf2 l := (host_bf2 (W1 m ρ c) l).trans (congrFun (given m ρ c main_arg9 (by decide)) _)
  histIn r j l r' c' hr hc := by
    rw [show V2 m ρ c main_v0_3 = _ from (built m ρ c 11 (by decide)).trans (prep_hist _ c)]
    exact whh_in _ _ _ _ _ _ _ _ r j l r' c' hr hc
  histOut r l h := by
    rw [show V2 m ρ c main_v0_3 = _ from (built m ρ c 11 (by decide)).trans (prep_hist _ c)]
    exact whh_out _ _ _ _ _ _ _ _ r l h
  bh l := (host_bh (W1 m ρ c) l).trans (congrFun (given m ρ c main_arg13 (by decide)) _)
  smp q l := (host_smp (W1 m ρ c) q l).trans (congrFun (given m ρ c main_arg10 (by decide)) _)
  smpOut q l h := host_pad (W1 m ρ c) q l h
  bs l := (host_bs (W1 m ρ c) l).trans (congrFun (given m ρ c main_arg11 (by decide)) _)
  wpf k l := (host_wpf (W1 m ρ c) k l).trans (congrFun (given m ρ c main_arg14 (by decide)) _)
  wpt k l := (host_wpt (W1 m ρ c) k l).trans (congrFun (given m ρ c main_arg14 (by decide)) _)
  wph k l := (host_wph (W1 m ρ c) k l).trans (congrFun (given m ρ c main_arg14 (by decide)) _)
  bp l := (host_bp (W1 m ρ c) l).trans (congrFun (given m ρ c main_arg15 (by decide)) _)

/-- The kernel's result array: every row is the specification's output of its row of features, for identifiers `d` that
    the features hold and finite table embeddings and weights. -/
theorem result (d : Fin 16384 → Ids) (hd : ∀ r, Holds (fun k => m (c.tc.loc main_arg0) (ix2 r k)) (d r))
    (ht : ∀ a k, ∃ r : ℝ, (kw m c).tableE a k = r)
    (hw : ∀ (k : Fin 64) (l : Fin 64), ∃ r : ℝ, (kw m c).Wp ⟨201 + k.val, by omega⟩ l = r) :
    (dat1 (V2 m ρ) c).arrAt 15 cfg1.N
      = fun i => rowOut (kw m c) (d (i 0)) (fun k => m (c.tc.loc main_arg0) (ix2 (i 0) k)) (i 1) := by
  refine block_out (V2 m ρ) c _ fun t p l => ?_
  obtain ⟨e1, e2, e3, e4, e5, e6, e7, e8, e9, e10, e11, e12, e13, e14⟩ := block_in (V2 m ρ) c t
  rw [after1_15, e1, e2, e3, e4, e5, e6, e7, e8, e9, e10, e11, e12, e13, e14]
  have hf : (fun k => iblk1 (V2 m ρ) c 0 t (ix2 p k)) = fun k => m (c.tc.loc main_arg0)
      (ix2 ⟨1024 * t.val + p.val, by have := t.isLt; have : cfg1.N = 16 := rfl; omega⟩ k) := funext fun k => by
    rw [block_rows, show V2 m ρ c main_arg0 = _ from W2_args m ρ c main_arg0 (by decide)]
  have h := row_out (tables m ρ c) (iblk1 (V2 m ρ) c 0 t) p _ (by rw [hf]; exact hd _) ht hw l
  rw [h, hf]
  rfl

end Cert.Proof
end
-- ==== Proof.Gathers.lean ====
module

public import proofs.«01_k».proof.Proof.Spec
public import proofs.«01_k».proof.Proof.Gen.ReferenceIdeal.Read
public import proofs.«01_k».proof.Proof.Gen.ReferenceIdeal
public import Idealize.ShloMosaic.Lib.Routing.Ops
public import Idealize.ShloMosaic.Lib.Pointwise

@[expose] public section

noncomputable section

namespace Cert.Proof

open Idealize.ShloMosaic Cert.ReferenceIdeal Cert.ReferenceIdeal.Read

/-- The word of an identifier is the identifier. -/
theorem word_of (k : ℕ) (hk : k < 256) : FloatOps.fptosi (F := Ideal) (φ := .f32) 32 (((k : ℝ) : EReal) : Ideal .f32) = BitVec.ofNat 32 k := by
  show Ideal.fptosi 32 ((k : ℝ) : EReal) = _
  rw [Ideal.fptosi, Ideal.toIntClamped_coe, if_pos (by positivity)]
  have h : ⌊((k : ℕ) : ℝ)⌋ = (k : ℤ) := by simp
  rw [h, min_eq_right (by norm_num; omega), max_eq_right (by norm_num)]
  exact BitVec.ofInt_natCast ..

/-- Wrapping a negative row number to the end leaves an identifier as it is. -/
theorem wrap_word (k : ℕ) (hk : k < 256) (n : BitVec 32) :
    Scalar.select (IntOp.cmpi .slt (BitVec.ofNat 32 k) 0#32) (IntOp.addi (BitVec.ofNat 32 k) n) (BitVec.ofNat 32 k) = BitVec.ofNat 32 k := by
  have h : IntOp.cmpi .slt (BitVec.ofNat 32 k) 0#32 = 0#1 := by
    have : ∀ k : Fin 256, IntOp.cmpi .slt (BitVec.ofNat 32 k.val) 0#32 = 0#1 := by decide +kernel
    exact this ⟨k, hk⟩
  rw [h]; rfl

/-- An identifier's word as a signed number is the identifier. -/
theorem word_int (k : ℕ) (hk : k < 256) : (BitVec.ofNat 32 k).toInt.toNat = k := by
  have : ∀ k : Fin 256, (BitVec.ofNat 32 k.val).toInt.toNat = k.val := by decide +kernel
  exact this ⟨k, hk⟩

/-- The dimension numbers of taking rows of a table at an array of row numbers with two axes. -/
abbrev rowsDims (N C R J : ℕ) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- Taking rows of a table reads the row that the row number names. -/
theorem rows_apply {N C R J : ℕ} {α : Type}
    (wf : GatherDims.WF ⟨2, ![N, C]⟩ ⟨3, ![R, J, 1]⟩ ⟨3, ![R, J, C]⟩ [2] [0] [] [0] [] 2 ![1, C])
    (x : (⟨2, ![N, C]⟩ : Shape).Idx → α) (idx : IVec ⟨3, ![R, J, 1]⟩ 32) (r : Fin R) (j : Fin J) (c : Fin C) (b : Fin N)
    (hb : (idx (ix3 r j 0)).toInt.toNat = b.val) :
    Host.gather (rowsDims N C R J wf) x idx (ix3 r j c) = x (ix2 b c) := by
  unfold Host.gather
  congr 1
  funext a
  refine Fin.ext ?_
  show (rowsDims N C R J wf).start (ix3 r j c) idx a + (rowsDims N C R J wf).batchCoord (ix3 r j c) a
      + (rowsDims N C R J wf).offCoord (ix3 r j c) a = _
  rw [GatherDims.batchCoord_eq_zero _ _ _ (fun h => by simp at h)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowsDims N C R J wf).startIndexMap from List.mem_singleton.mpr rfl)]
    have hsi : (rowsDims N C R J wf).siIdx (ix3 r j c) ⟨List.idxOf (0 : Fin 2) (rowsDims N C R J wf).startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi, hb]
    show min b.val (N - 1) + 0 + 0 = b.val
    have := b.isLt
    omega
  · unfold GatherDims.start
    rw [dif_neg (show ¬ (1 : Fin 2) ∈ (rowsDims N C R J wf).startIndexMap from by simp)]
    show 0 + 0 + c.val = c.val
    omega

end Cert.Proof
end
-- ==== Proof.Reference.lean ====
module

public import proofs.«01_k».proof.Proof.Gathers
public import proofs.«01_k».proof.Proof.Result

@[expose] public section

noncomputable section

namespace Cert.Proof

open Idealize.ShloMosaic Cert.ReferenceIdeal Cert.ReferenceIdeal.Read

/-! # The reference's value

Entry by entry, the reference's stages are the formulas of one row. -/

variable (x0 : Vec Ideal S16384x1165 .f32) (x1 x2 : Vec Ideal S20x64 .f32) (x3 : Vec Ideal S30x64 .f32)
  (x4 : Vec Ideal S10x8 .f32) (x5 : Vec Ideal S10x64 .f32) (x6 : Vec Ideal S73x73 .f32) (x7 : Vec Ideal S73 .f32)
  (x8 : Vec Ideal S73x73 .f32) (x9 : Vec Ideal S73 .f32) (x10 : Vec Ideal S1000x64 .f32) (x11 : Vec Ideal S64 .f32)
  (x12 : Vec Ideal S50x64 .f32) (x13 : Vec Ideal S64 .f32) (x14 : Vec Ideal S329x64 .f32) (x15 : Vec Ideal S64 .f32)
  (r : Fin 16384) (d : Ids) (hd : Holds (fun k => x0 (ix2 r k)) d)

include hd

/-- The type's embedding. -/
theorem ref_type (k : Fin 64) : val_main_v14 (F := Ideal) x0 x1 (ix2 r k) = x1 (ix2 d.ty k) := by
  refine Routing.gather_row _ rfl rfl rfl rfl rfl x1 _ r k d.ty ?_ (by norm_num)
  have h : x0 (ix2 r 0) = ((d.ty.val : ℝ) : EReal) := hd.ty
  pointwise [val_main_v13, val_main_v12, val_main_v11, val_main_v10, val_main_v9, val_main_v8, val_main_v7, val_main_v6,
    val_main_v0, val_main_c, val_main_c_0]
  rw [h, word_of _ (by omega), wrap_word _ (by omega)]

/-- The join's embedding. -/
theorem ref_join (k : Fin 64) : val_main_v23 (F := Ideal) x0 x5 (ix2 r k) = x5 (ix2 d.jn k) := by
  refine Routing.gather_row _ rfl rfl rfl rfl rfl x5 _ r k d.jn ?_ (by norm_num)
  have h : x0 (ix2 r 1) = ((d.jn.val : ℝ) : EReal) := hd.jn
  pointwise [val_main_v22, val_main_v21, val_main_v20, val_main_v19, val_main_v18, val_main_v17, val_main_v16, val_main_v15,
    val_main_v1, val_main_c_1, val_main_c_2]
  rw [h, word_of _ (by omega), wrap_word _ (by omega)]

/-- The table's embedding. -/
theorem ref_table (k : Fin 64) : val_main_v91 (F := Ideal) x0 x2 (ix2 r k) = x2 (ix2 d.tb k) := by
  refine Routing.gather_row _ rfl rfl rfl rfl rfl x2 _ r k d.tb ?_ (by norm_num)
  have h : val_main_v82 (F := Ideal) x0 (ix1 r) = ((d.tb.val : ℝ) : EReal) := by
    rw [val_main_v82_apply, val_main_v81_apply, val_main_v5_apply]
    refine (congrArg x0 (funext fun a => Fin.ext ?_)).trans hd.tb
    match a with
    | ⟨0, _⟩ => exact Nat.div_one r.val
    | ⟨1, _⟩ => rfl
  pointwise [val_main_v90, val_main_v89, val_main_v88, val_main_v87, val_main_v86, val_main_v85, val_main_v83, val_main_c_15, val_main_c_16]
  rw [h, word_of _ (by omega), wrap_word _ (by omega)]

/-- A filter's column embedding. -/
theorem ref_col (j : Fin 3) (k : Fin 64) : val_main_v41 (F := Ideal) x0 x3 (ix3 r j k) = x3 (ix2 (d.col j) k) := by
  refine rows_apply _ x3 _ r j k (d.col j) ?_
  have h : x0 (ix2 r ⟨2 + j.val, by omega⟩) = (((d.col j).val : ℝ) : EReal) := hd.col j
  pointwise [val_main_v40, val_main_v39, val_main_v38, val_main_v37, val_main_v36, val_main_v35,
    val_main_v28, val_main_v27, val_main_v26, val_main_v25, val_main_v24, val_main_v2, val_main_c_3, val_main_c_4]
  rw [h, word_of _ (by omega), wrap_word _ (by omega), word_int _ (by omega)]

/-- A filter's operator embedding. -/
theorem ref_op (j : Fin 3) (k : Fin 8) : val_main_v48 (F := Ideal) x0 x4 (ix3 r j k) = x4 (ix2 (d.op j) k) := by
  refine rows_apply _ x4 _ r j k (d.op j) ?_
  have h : x0 (ix2 r ⟨2 + (3 + j.val), by omega⟩) = (((d.op j).val : ℝ) : EReal) :=
    (congrArg (fun k => x0 (ix2 r k)) (Fin.ext (show 2 + (3 + j.val) = 5 + j.val by omega))).trans (hd.op j)
  pointwise [val_main_v47, val_main_v46, val_main_v45, val_main_v44, val_main_v43, val_main_v42,
    val_main_v31, val_main_v30, val_main_v29, val_main_v25, val_main_v24, val_main_v2, val_main_c_5, val_main_c_6]
  rw [h, word_of _ (by omega), wrap_word _ (by omega), word_int _ (by omega)]

/-- The leaky rectifier of the first layer of a filter. -/
theorem ref_filt1 (j : Fin 3) (l : Fin 73) : val_main_v54 (F := Ideal) x0 x3 x4 x6 x7 (ix3 r j l)
    = filt1 (weights x1 x2 x3 x4 x5 x6 x7 x8 x9 x10 x11 x12 x13 x14 x15) d (fun k => x0 (ix2 r k)) j l := by
  have h1 : ∀ k : Fin 64, val_main_v49 (F := Ideal) x0 x3 x4 (ix3 r j ⟨k.val, by omega⟩) = x3 (ix2 (d.col j) k) := fun k => by
    rw [← ref_col x0 x3 r d hd]
    pointwise [val_main_v49]
  have h2 : ∀ k : Fin 8, val_main_v49 (F := Ideal) x0 x3 x4 (ix3 r j ⟨64 + k.val, by omega⟩) = x4 (ix2 (d.op j) k) := fun k => by
    rw [← ref_op x0 x4 r d hd]
    pointwise [val_main_v49]
  have h3 : val_main_v49 (F := Ideal) x0 x3 x4 (ix3 r j ⟨72, by omega⟩) = x0 (ix2 r ⟨8 + j.val, by omega⟩) := by
    pointwise [val_main_v49, val_main_v34, val_main_v33, val_main_v32, val_main_v25, val_main_v24, val_main_v2]
    exact congrArg (fun k => x0 (ix2 r k)) (Fin.ext (show 2 + (6 + j.val) = 8 + j.val by omega))
  have hs : val_main_v50 (F := Ideal) x0 x3 x4 x6 (ix3 r j l)
      = ∑ k : Fin 64, x3 (ix2 (d.col j) k) * x6 (ix2 ⟨k.val, by omega⟩ l)
        + ∑ k : Fin 8, x4 (ix2 (d.op j) k) * x6 (ix2 ⟨64 + k.val, by omega⟩ l)
        + x0 (ix2 r ⟨8 + j.val, by omega⟩) * x6 (ix2 ⟨72, by omega⟩ l) := by
    pointwise [val_main_v50, dot_S16384x3x73_S73x73_S16384x3x73_2_0_01_1_n_n]
    show ∑ x : Fin (64 + 8 + 1), _ = _
    rw [Fin.sum_univ_add, Fin.sum_univ_add, Fin.sum_univ_one]
    refine congrArg₂ (· + ·) (congrArg₂ (· + ·) (Finset.sum_congr rfl fun k _ => ?_) (Finset.sum_congr rfl fun k _ => ?_)) ?_
    · rw [← h1]; rfl
    · rw [← h2]; rfl
    · rw [← h3]; rfl
  have he : val_main_v54 (F := Ideal) x0 x3 x4 x6 x7 (ix3 r j l) = leaky (val_main_v50 (F := Ideal) x0 x3 x4 x6 (ix3 r j l) + x7 (ix1 l)) := by
    pointwise [val_main_v54, val_main_v53, val_main_v52, val_main_v51, val_main_call0_v1, val_main_call0_v4, val_main_call0_v0,
      val_main_call0_v2, val_main_call0_v3, val_main_call0_cst]
    rfl
  rw [he, hs]; rfl

/-- The leaky rectifier of the second layer of a filter. -/
theorem ref_filt2 (j : Fin 3) (l : Fin 73) : val_main_v59 (F := Ideal) x0 x3 x4 x6 x7 x8 x9 (ix3 r j l)
    = filt2 (weights x1 x2 x3 x4 x5 x6 x7 x8 x9 x10 x11 x12 x13 x14 x15) d (fun k => x0 (ix2 r k)) j l := by
  have hs : val_main_v55 (F := Ideal) x0 x3 x4 x6 x7 x8 (ix3 r j l) = ∑ k : Fin 73,
      filt1 (weights x1 x2 x3 x4 x5 x6 x7 x8 x9 x10 x11 x12 x13 x14 x15) d (fun k => x0 (ix2 r k)) j k * x8 (ix2 k l) := by
    pointwise [val_main_v55, dot_S16384x3x73_S73x73_S16384x3x73_2_0_01_1_n_n]
    exact Finset.sum_congr rfl fun k _ => by rw [ref_filt1 (hd := hd)]
  have he : val_main_v59 (F := Ideal) x0 x3 x4 x6 x7 x8 x9 (ix3 r j l)
      = leaky (val_main_v55 (F := Ideal) x0 x3 x4 x6 x7 x8 (ix3 r j l) + x9 (ix1 l)) := by
    pointwise [val_main_v59, val_main_v58, val_main_v57, val_main_v56, val_main_call1_v1, val_main_call1_v4, val_main_call1_v0,
      val_main_call1_v2, val_main_call1_v3, val_main_call1_cst]
    rfl
  rw [he, hs]; rfl

/-- A mask's number is not zero just when its filter counts. -/
theorem ref_on (j : Fin 3) {α : Type} (x y : α) :
    (if val_main_v3 (F := Ideal) x0 (ix2 r j) ≠ 0 then x else y) = if d.on j then x else y := by
  have h : x0 (ix2 r ⟨11 + j.val, by omega⟩) = if d.on j then 1 else 0 := hd.on j
  pointwise [val_main_v3]
  rw [h]
  cases d.on j <;> simp

/-- The clipped sum of the masks. -/
theorem ref_num : val_main_v66 (F := Ideal) x0 (ix2 r 0) = num d := by
  have h : ∀ j : Fin 3, x0 (ix2 r ⟨11 + j.val, by omega⟩) = if d.on j then 1 else 0 := hd.on
  pointwise [val_main_v66, val_main_v65, val_main_v64, val_main_v3, val_main_call3_v1, val_main_call3_v0, val_main_cst_11, val_main_cst_10]
  simp only [h]
  exact congrArg (max · _) Ideal.ofBits_one_f32

/-- The filter embedding. -/
theorem ref_filtE (l : Fin 73) : val_main_v69 (F := Ideal) x0 x3 x4 x6 x7 x8 x9 (ix2 r l)
    = filtE (weights x1 x2 x3 x4 x5 x6 x7 x8 x9 x10 x11 x12 x13 x14 x15) d (fun k => x0 (ix2 r k)) l := by
  pointwise [val_main_v69, val_main_v67, val_main_v68, val_main_v63, val_main_call2_v1, val_main_call2_v2, val_main_call2_v0, val_main_v62,
    val_main_v61, val_main_v60, val_main_cst_12, val_main_cst_8, val_main_cst_9]
  rw [ref_num (hd := hd), show id (constant (F := Ideal) S_ .f32 0x00000000#32) ix0 = 0 from Ideal.ofBits_zero_f32]
  refine congrArg (Ideal.div · (num d)) (Finset.sum_congr rfl fun j _ => ?_)
  rw [ref_on (hd := hd), ref_filt2 (hd := hd)]

/-- The histogram layer on one bin. -/
theorem ref_hist (j : Fin 3) (c : Fin 64) : val_main_v75 (F := Ideal) x0 x12 x13 (ix3 r j c)
    = hist (weights x1 x2 x3 x4 x5 x6 x7 x8 x9 x10 x11 x12 x13 x14 x15) (fun k => x0 (ix2 r k)) j c := by
  have h : ∀ q : Fin 50, val_main_v71 (F := Ideal) x0 (ix3 r j q) = x0 (ix2 r ⟨14 + 3 * q.val + j.val, by omega⟩) := fun q => by
    pointwise [val_main_v71, val_main_v70, val_main_v4]
    exact congrArg (fun k => x0 (ix2 r k)) (Fin.ext (show 14 + (q.val * 3 + j.val) = 14 + 3 * q.val + j.val by omega))
  pointwise [val_main_v75, val_main_v74, val_main_v73, val_main_v72, dot_S16384x3x50_S50x64_S16384x3x64_2_0_01_1_n_n]
  simp only [h]
  rfl

/-- The histogram embedding. -/
theorem ref_histE (c : Fin 64) : val_main_v80 (F := Ideal) x0 x12 x13 (ix2 r c)
    = histE (weights x1 x2 x3 x4 x5 x6 x7 x8 x9 x10 x11 x12 x13 x14 x15) d (fun k => x0 (ix2 r k)) c := by
  pointwise [val_main_v80, val_main_v78, val_main_v79, val_main_v77, val_main_call4_v1, val_main_call4_v2, val_main_call4_v0, val_main_v76, val_main_v62,
    val_main_v61, val_main_v60, val_main_cst_14, val_main_cst_8, val_main_cst_13]
  rw [ref_num (hd := hd), show id (constant (F := Ideal) S_ .f32 0x00000000#32) ix0 = 0 from Ideal.ofBits_zero_f32]
  refine congrArg (Ideal.div · (num d)) (Finset.sum_congr rfl fun j _ => ?_)
  rw [ref_on (hd := hd), ref_hist (hd := hd)]

/-- The table's embedding with the sample layer. -/
theorem ref_sample (c : Fin 64) : val_main_v96 (F := Ideal) x0 x2 x10 x11 (ix2 r c)
    = x2 (ix2 d.tb c) + sample (weights x1 x2 x3 x4 x5 x6 x7 x8 x9 x10 x11 x12 x13 x14 x15) (fun k => x0 (ix2 r k)) c := by
  rw [← ref_table x0 x2 r d hd]
  pointwise [val_main_v96, val_main_v95, val_main_v94, val_main_v93, val_main_v92, val_main_v84, val_main_v5,
    dot_S16384x1000_S1000x64_S16384x64_1_0_0_1_n_n]
  refine congrArg (_ + ·) (congrArg (· + x11 (ix1 c)) (Finset.sum_congr rfl fun q _ => ?_))
  exact congrArg (fun k => x0 (ix2 r k) * x10 (ix2 q c)) (Fin.ext (show 164 + (1 + q.val) = 165 + q.val by omega))

/-- The reference's result, entry by entry. -/
theorem ref_out (c : Fin 64) : val_main_v102 (F := Ideal) x0 x1 x2 x3 x4 x5 x6 x7 x8 x9 x10 x11 x12 x13 x14 x15 (ix2 r c)
    = rowOut (weights x1 x2 x3 x4 x5 x6 x7 x8 x9 x10 x11 x12 x13 x14 x15) d (fun k => x0 (ix2 r k)) c := by
  have hs : val_main_v98 (F := Ideal) x0 x1 x2 x3 x4 x5 x6 x7 x8 x9 x10 x11 x12 x13 x14 (ix2 r c) + x15 (ix1 c)
      = pre (weights x1 x2 x3 x4 x5 x6 x7 x8 x9 x10 x11 x12 x13 x14 x15) d (fun k => x0 (ix2 r k)) c := by
    refine congrArg (· + x15 (ix1 c)) ?_
    pointwise [val_main_v98, dot_S16384x329_S329x64_S16384x64_1_0_0_1_n_n]
    show ∑ x : Fin (64 + 73 + 64 + 64 + 64), _ = _
    rw [Fin.sum_univ_add, Fin.sum_univ_add, Fin.sum_univ_add, Fin.sum_univ_add]
    refine congrArg₂ (· + ·) (congrArg₂ (· + ·) (congrArg₂ (· + ·) (congrArg₂ (· + ·)
      (Finset.sum_congr rfl fun k _ => ?_) (Finset.sum_congr rfl fun k _ => ?_)) (Finset.sum_congr rfl fun k _ => ?_))
      (Finset.sum_congr rfl fun k _ => ?_)) (Finset.sum_congr rfl fun k _ => ?_)
    · refine congrArg₂ (· * ·) (Eq.trans ?_ (ref_type x0 x1 r d hd k)) rfl
      show val_main_v97 (F := Ideal) x0 x1 x2 x3 x4 x5 x6 x7 x8 x9 x10 x11 x12 x13 (ix2 r ⟨k.val, by omega⟩) = _
      pointwise [val_main_v97]
    · refine congrArg₂ (· * ·) (Eq.trans ?_ (ref_filtE (hd := hd) ..)) rfl
      show val_main_v97 (F := Ideal) x0 x1 x2 x3 x4 x5 x6 x7 x8 x9 x10 x11 x12 x13 (ix2 r ⟨64 + k.val, by omega⟩) = _
      pointwise [val_main_v97]
    · refine congrArg₂ (· * ·) (Eq.trans ?_ (ref_join x0 x5 r d hd k)) rfl
      show val_main_v97 (F := Ideal) x0 x1 x2 x3 x4 x5 x6 x7 x8 x9 x10 x11 x12 x13 (ix2 r ⟨137 + k.val, by omega⟩) = _
      pointwise [val_main_v97]
      rw [dif_neg (by omega), dif_neg (by omega), dif_pos (by omega)]
      exact congrArg (fun l => val_main_v23 (F := Ideal) x0 x5 (ix2 r l)) (Fin.ext (show 137 + k.val - 64 - 73 = k.val by omega))
    · refine congrArg₂ (· * ·) (Eq.trans ?_ (ref_sample (hd := hd) ..)) rfl
      show val_main_v97 (F := Ideal) x0 x1 x2 x3 x4 x5 x6 x7 x8 x9 x10 x11 x12 x13 (ix2 r ⟨201 + k.val, by omega⟩) = _
      pointwise [val_main_v97]
      rw [dif_neg (by omega), dif_neg (by omega), dif_neg (by omega), dif_pos (by omega)]
      exact congrArg (fun l => val_main_v96 (F := Ideal) x0 x2 x10 x11 (ix2 r l)) (Fin.ext (show 201 + k.val - 64 - 73 - 64 = k.val by omega))
    · refine congrArg₂ (· * ·) (Eq.trans ?_ (ref_histE (hd := hd) ..)) rfl
      show val_main_v97 (F := Ideal) x0 x1 x2 x3 x4 x5 x6 x7 x8 x9 x10 x11 x12 x13 (ix2 r ⟨265 + k.val, by omega⟩) = _
      pointwise [val_main_v97]
      rw [dif_neg (by omega), dif_neg (by omega), dif_neg (by omega), dif_neg (by omega)]
      exact congrArg (fun l => val_main_v80 (F := Ideal) x0 x12 x13 (ix2 r l)) (Fin.ext (show 265 + k.val - 64 - 73 - 64 - 64 = k.val by omega))
  rw [rowOut, ← hs]
  pointwise [val_main_v102, val_main_v101, val_main_v100, val_main_v99, val_main_call5_v1, val_main_call5_v4, val_main_call5_v0,
    val_main_call5_v2, val_main_call5_v3, val_main_call5_cst]
  rfl

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Run
public import proofs.«01_k».proof.Proof.Result
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with every argument as it was and every semaphore counter at zero. -/
theorem frame_reference : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel and the reference, on equal arguments, end with equal result arrays, their arguments
    unchanged. -/
theorem algebraic [hPre_drawn : Cert.Pre_drawn.Facts] : algebraic_KernelIdeal_ReferenceIdeal_pre_drawn := by
  intro m ρ m' ρ' hpre hagree
  have hD := fun c => drawn_of _ rfl (hpre c).1 (hpre c).2.1 (hpre c).2.2.1 (hpre c).2.2.2.1 (hpre c).2.2.2.2.1
    (hpre c).2.2.2.2.2.1 (hpre c).2.2.2.2.2.2.1 (hpre c).2.2.2.2.2.2.2
  choose d hd using fun c => (hD c).ids
  refine ⟨fun c => (Cert.KernelIdeal.Gen.dat1 (Cert.KernelIdeal.Gen.V2 m ρ) c).arrAt 15 Cert.KernelIdeal.cfg1.N,
    (θ_run Cert.KernelIdeal.defs _ _).mono (fun r h c => ?_) (run_all m ρ),
    (θ_run Cert.ReferenceIdeal.defs _ _).mono (fun r h c => ⟨(h c).1.trans ?_, (h c).2⟩)
      (Cert.ReferenceIdeal.Value.run (F := Ideal) m' ρ')⟩
  · have k := fun a ha hb => kept m ρ c r (h c) a ha (Cert.KernelIdeal.Gen.mem_uc a hb)
    exact ⟨(h c _ (Cert.KernelIdeal.Gen.mem_uc Cert.KernelIdeal.main_v12 (by decide))).trans (run_result m ρ c),
      k Cert.KernelIdeal.main_arg0 (by decide) (by decide),
      k Cert.KernelIdeal.main_arg1 (by decide) (by decide),
      k Cert.KernelIdeal.main_arg2 (by decide) (by decide),
      k Cert.KernelIdeal.main_arg3 (by decide) (by decide),
      k Cert.KernelIdeal.main_arg4 (by decide) (by decide),
      k Cert.KernelIdeal.main_arg5 (by decide) (by decide),
      k Cert.KernelIdeal.main_arg6 (by decide) (by decide),
      k Cert.KernelIdeal.main_arg7 (by decide) (by decide),
      k Cert.KernelIdeal.main_arg8 (by decide) (by decide),
      k Cert.KernelIdeal.main_arg9 (by decide) (by decide),
      k Cert.KernelIdeal.main_arg10 (by decide) (by decide),
      k Cert.KernelIdeal.main_arg11 (by decide) (by decide),
      k Cert.KernelIdeal.main_arg12 (by decide) (by decide),
      k Cert.KernelIdeal.main_arg13 (by decide) (by decide),
      k Cert.KernelIdeal.main_arg14 (by decide) (by decide),
      k Cert.KernelIdeal.main_arg15 (by decide) (by decide)⟩
  · obtain ⟨h0, h1, h2, h3, h4, h5, h6, h7, h8, h9, h10, h11, h12, h13, h14, h15⟩ := hagree c
    refine (Cert.ReferenceIdeal.Read.val_main_v102_eq (F := Ideal) (StableHlo.launchContents m' c)).trans ?_
    show Cert.ReferenceIdeal.Read.val_main_v102 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) (m' (c.tc.loc Cert.ReferenceIdeal.main_arg10)) (m' (c.tc.loc Cert.ReferenceIdeal.main_arg11)) (m' (c.tc.loc Cert.ReferenceIdeal.main_arg12)) (m' (c.tc.loc Cert.ReferenceIdeal.main_arg13)) (m' (c.tc.loc Cert.ReferenceIdeal.main_arg14)) (m' (c.tc.loc Cert.ReferenceIdeal.main_arg15)) = _
    rw [h0, h1, h2, h3, h4, h5, h6, h7, h8, h9, h10, h11, h12, h13, h14, h15]
    refine Eq.trans ?_ (result m ρ c (d c) (hd c) (hD c).table (hD c).weight).symm
    funext i
    rw [← ix2_eta i]
    exact ref_out _ _ _ _ _ _ _ _ _ _ _ _ _ _ _ _ (i 0) (d c (i 0)) (hd c (i 0)) (i 1)

/-- Everything that is claimed. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, algebraic (hPre_drawn := pre_facts)⟩

end Cert.Proof

end
